-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lanes_suffice [hPre_lanes_suffice : Cert.Pre_lanes_suffice.Facts] (m : (ℓ : Loc Cert.KernelIdeal.nD Cert.KernelIdeal.τ Cert.KernelIdeal.sig) → Buf (Elt Ideal) ℓ) : Prop :=
  ∀ c : Dev Cert.KernelIdeal.nD,
    (Cert.Pre_lanes_suffice.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lanes_suffice [hPre_lanes_suffice : Cert.Pre_lanes_suffice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lanes_suffice.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_lanes_suffice [hKernelIdeal : Cert.KernelIdeal.Facts] [hPre_lanes_suffice : Cert.Pre_lanes_suffice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lanes_suffice m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_lanes_suffice [hReferenceIdeal : Cert.ReferenceIdeal.Facts] [hPre_lanes_suffice : Cert.Pre_lanes_suffice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lanes_suffice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_lanes_suffice [hKernelIdeal : Cert.KernelIdeal.Facts] [hReferenceIdeal : Cert.ReferenceIdeal.Facts] [hPre_lanes_suffice : Cert.Pre_lanes_suffice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lanes_suffice m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_lanes_suffice : Cert.Pre_lanes_suffice.Facts),
    quiescent_Kernel (hKernel := hKernel)
    ∧ quiescent_KernelIdeal (hKernelIdeal := hKernelIdeal)
    ∧ quiescent_KernelIdeal_pre_lanes_suffice (hKernelIdeal := hKernelIdeal) (hPre_lanes_suffice := hPre_lanes_suffice)
    ∧ quiescent_ReferenceIdeal (hReferenceIdeal := hReferenceIdeal)
    ∧ quiescent_ReferenceIdeal_pre_lanes_suffice (hReferenceIdeal := hReferenceIdeal) (hPre_lanes_suffice := hPre_lanes_suffice)
    ∧ preserves_Kernel_KernelIdeal
    ∧ algebraic_KernelIdeal_ReferenceIdeal_pre_lanes_suffice (hKernelIdeal := hKernelIdeal) (hReferenceIdeal := hReferenceIdeal) (hPre_lanes_suffice := hPre_lanes_suffice)
-- ==== Pre_lanes_suffice.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S8192x64x128 : Shape := ⟨3, ![8192, 64, 128]⟩
abbrev S8192x128 : Shape := ⟨2, ![8192, 128]⟩

class Facts : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  slices_S8192x8192_S8192x1_0_16 : S8192x8192.Slices ![0, 16] S8192x1
  natLt_1_32 : 1 < 32
  shapeCasts_S8192x8192_S8192x64x128 : S8192x8192.ShapeCasts S8192x64x128
  reducesTo_S8192x64x128_S8192x128_d1 : S8192x64x128.ReducesTo [1] S8192x128
  bcast_S_S8192x128 : S_.BroadcastsInDim S8192x128 (![] : Fin 0 → Fin S8192x128.rank)
  dot_S8192x64_S64x8192_S8192x8192_1_0_0_1_n_n_wf : DotDims.WF S8192x64 S64x8192 S8192x8192 [1] [0] [0] [1] [] []

variable [Facts]

variable {F : FTy → Type} [FloatOps F]
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S8192x8192 .f32) : FVec F S8192x8192 .f32 :=
  let v0 : FVec F S8192x8192 .f32 := (fun x => Host.sort S8192x8192 1 comparator_f32_d1 x) arg0
  v0

def fn_part1 {F : FTy → Type} [FloatOps F] (main_v20 : IVec S8192x64x128 32) : IVec S8192x128 1 :=
  let main_c : IVec S_ 32 := constantI S_ 32 0#32
  let main_v21 : IVec S8192x128 32 := (fun x v => Host.reduce IntOp.addi x v reducesTo_S8192x64x128_S8192x128_d1 h_S_) main_v20 main_c
  let main_c_2 : IVec S_ 32 := constantI S_ 32 5#32
  let main_v22 : IVec S8192x128 32 := broadcastInDim S8192x128 ![] bcast_S_S8192x128 main_c_2
  let main_v23 : IVec S8192x128 1 := cmpi .sle main_v21 main_v22
  main_v23

def fn {F : FTy → Type} [FloatOps F] (main_arg0 : FVec F S8192x64 .f32) : IVec S8192x128 1 :=
  let main_v0 : FVec F S8192x64 .f32 := mulf main_arg0 main_arg0
  let main_cst : FVec F S_ .f32 := constant S_ .f32 0x00000000#32
  let main_v1 : FVec F S8192 .f32 := (fun x v => Host.reduceAdd x v reducesTo_S8192x64_S8192_d1 h_S_) main_v0 main_cst
  let main_v2 : FVec F S8192x1 .f32 := broadcastInDim S8192x1 ![0] bcast_S8192_S8192x1_0 main_v1
  let main_v3 : FVec F S1x8192 .f32 := broadcastInDim S1x8192 ![1] bcast_S8192_S1x8192_1 main_v1
  let main_v4 : FVec F S8192x8192 .f32 := broadcastInDim S8192x8192 ![0, 1] bcast_S8192x1_S8192x8192_0_1 main_v2
  let main_v5 : FVec F S8192x8192 .f32 := broadcastInDim S8192x8192 ![0, 1] bcast_S1x8192_S8192x8192_0_1 main_v3
  let main_v6 : FVec F S8192x8192 .f32 := addf main_v4 main_v5
  let main_v7 : FVec F S64x8192 .f32 := (transpose S64x8192 [1, 0] · transposes_S8192x64_S64x8192_1_0) main_arg0
  let main_v8 : FVec F S8192x8192 .f32 := (fun l r => Host.dotGeneral dot_S8192x64_S64x8192_S8192x8192_1_0_0_1_n_n none l r) main_arg0 main_v7
  let main_cst_0 : FVec F S_ .f32 := constant S_ .f32 0x40000000#32
  let main_v9 : FVec F S8192x8192 .f32 := broadcastInDim S8192x8192 ![] bcast_S_S8192x8192 main_cst_0
  let main_v10 : FVec F S8192x8192 .f32 := mulf main_v9 main_v8
  let main_v11 : FVec F S8192x8192 .f32 := subf main_v6 main_v10
  let main_cst_1 : FVec F S_ .f32 := constant S_ .f32 0x2B8CBCCC#32
  let main_v12 : FVec F S8192x8192 .f32 := broadcastInDim S8192x8192 ![] bcast_S_S8192x8192 main_cst_1
  let main_v13 : FVec F S8192x8192 .f32 := maximumf main_v11 main_v12
  let main_v14 : FVec F S8192x8192 .f32 := Host.sqrt main_v13
  let main_v15 : FVec F S8192x8192 .f32 := fn_sort (F := F) main_v14
  let main_v16 : FVec F S8192x1 .f32 := (extractStridedSlice S8192x1 ![0, 16] · slices_S8192x8192_S8192x1_0_16) main_v15
  let main_v17 : FVec F S8192x8192 .f32 := broadcastInDim S8192x8192 ![0, 1] bcast_S8192x1_S8192x8192_0_1 main_v16
  let main_v18 : IVec S8192x8192 1 := cmpf .ole main_v14 main_v17
  let main_v19 : IVec S8192x8192 32 := (extui 32 · natLt_1_32) main_v18
  let main_v20 : IVec S8192x64x128 32 := shapeCast S8192x64x128 main_v19 shapeCasts_S8192x8192_S8192x64x128
  fn_part1 (F := F) main_v20
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x16 : Shape := ⟨2, ![8192, 16]⟩
abbrev S512x64 : Shape := ⟨2, ![512, 64]⟩
abbrev S512x1 : Shape := ⟨2, ![512, 1]⟩
abbrev S512x16 : Shape := ⟨2, ![512, 16]⟩
abbrev S8x128 : Shape := ⟨2, ![8, 128]⟩
abbrev S512x8192 : Shape := ⟨2, ![512, 8192]⟩
abbrev S512x128 : Shape := ⟨2, ![512, 128]⟩
abbrev S512 : Shape := ⟨1, ![512]⟩

abbrev nBuf : Space → Nat
  | .hbm => 8
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192x64, .bf16⟩
  | .hbm, ⟨5, _⟩ => ⟨S8192x1, .f32⟩
  | .hbm, ⟨6, _⟩ => ⟨S1x8192, .f32⟩
  | .hbm, ⟨7, _⟩ => ⟨S8192x16, .i32⟩
  | .local _ .vmem, ⟨0, _⟩ => ⟨S512x64, .bf16⟩
  | .local _ .vmem, ⟨1, _⟩ => ⟨S512x64, .bf16⟩
  | .local _ .vmem, ⟨2, _⟩ => ⟨S8192x64, .bf16⟩
  | .local _ .vmem, ⟨3, _⟩ => ⟨S512x1, .f32⟩
  | .local _ .vmem, ⟨4, _⟩ => ⟨S512x1, .f32⟩
  | .local _ .vmem, ⟨5, _⟩ => ⟨S1x8192, .f32⟩
  | .local _ .vmem, ⟨6, _⟩ => ⟨S512x16, .i32⟩
  | .local _ .vmem, ⟨7, _⟩ => ⟨S512x16, .i32⟩
  | .local _ .vmem, ⟨8, _⟩ => ⟨S8x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S8192x16 : Shape := ⟨2, ![8192, 16]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S64x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .f32⟩
  | .hbm, ⟨21, _⟩ => ⟨S8192x8192, .i32⟩
  | .hbm, ⟨22, _⟩ => ⟨S8192x16, .i32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_v1_0 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Sorted.lean ====
/- The stable sort of positions by a value: the sorted positions are in the order of value, then position. -/
module

public import Idealize.ShloMosaic.Lib.SortFacts
public import Mathlib.Data.EReal.Basic
public import Mathlib.Data.List.FinRange

@[expose] public section

namespace Cert.Sorted

open Idealize.ShloMosaic

variable {n : ℕ} (f : Fin n → EReal)

/-- Position `a` comes before position `b`: a smaller value, or the same value and a smaller position. -/
def Precedes (a b : Fin n) : Prop := f a < f b ∨ (f a = f b ∧ a < b)

/-- Inserting a position in front of later positions, after the smaller values, keeps a list ordered. -/
theorem pairwise_insert (a : Fin n) (l : List (Fin n)) (ha : ∀ b ∈ l, a < b) (hl : l.Pairwise (Precedes f)) :
    (insertBefore (fun x y => decide (f x < f y)) a l).Pairwise (Precedes f) := by
  induction l with
  | nil => exact List.pairwise_singleton _ _
  | cons b l ih =>
    have hb := (List.pairwise_cons.mp hl).1
    have hr := ih (fun x hx => ha x (List.mem_cons_of_mem _ hx)) (List.pairwise_cons.mp hl).2
    by_cases h : f b < f a
    · have e : insertBefore (fun x y => decide (f x < f y)) a (b :: l)
          = b :: insertBefore (fun x y => decide (f x < f y)) a l := by
        rw [insertBefore, if_pos (by simpa using h)]
      rw [e, List.pairwise_cons]
      refine ⟨fun x hx => ?_, hr⟩
      have hx' := (perm_insertBefore _ a l).mem_iff.mp hx
      rcases List.mem_cons.mp hx' with rfl | hx'
      · exact Or.inl h
      · exact hb x hx'
    · have e : insertBefore (fun x y => decide (f x < f y)) a (b :: l) = a :: b :: l := by
        rw [insertBefore, if_neg (by simpa using h)]
      rw [e, List.pairwise_cons]
      refine ⟨fun x hx => ?_, hl⟩
      have hle : f a ≤ f x := by
        rcases List.mem_cons.mp hx with rfl | hx'
        · exact not_lt.mp h
        · rcases hb x hx' with h' | ⟨h', -⟩
          · exact (not_lt.mp h).trans h'.le
          · exact (not_lt.mp h).trans h'.le
      rcases lt_or_eq_of_le hle with h' | h'
      · exact Or.inl h'
      · exact Or.inr ⟨h', ha x hx⟩

/-- Sorting an increasing list of positions leaves it ordered. -/
theorem pairwise_sort (l : List (Fin n)) (hl : l.Pairwise (· < ·)) :
    (stableSort (fun x y => decide (f x < f y)) l).Pairwise (Precedes f) := by
  induction l with
  | nil => exact List.Pairwise.nil
  | cons a l ih =>
    have h := List.pairwise_cons.mp hl
    exact pairwise_insert f a _ (fun b hb => h.1 b ((perm_stableSort _ l).mem_iff.mp hb)) (ih h.2)

/-- The sorted positions are in the order of value, then position. -/
theorem sortedFrom_precedes (p q : Fin n) (h : p < q) :
    Precedes f (sortedFrom (fun x y => decide (f x < f y)) p) (sortedFrom (fun x y => decide (f x < f y)) q) := by
  have hs := pairwise_sort f (List.finRange n) (List.pairwise_lt_finRange n)
  exact List.pairwise_iff_get.mp hs _ _ h

end Cert.Sorted

end
-- ==== Proof.Select.lean ====
/- The kernel body's selection, written once by recursion: the tournament over the 32 pairs of column blocks, the five
   levels it is played, and the seventeen rounds that pick one column per row. The operations are the program's own
   vector operations, so the run's sixteen stored columns are these values by unfolding both sides. -/
module

public import proofs.«01_k».proof.Proof.Gen.KernelIdeal.Frame
public import Idealize.ShloMosaic.Lib.WritesUnit

@[expose] public section

noncomputable section

namespace Cert.KernelIdeal.Select

open Cert.KernelIdeal Cert.KernelIdeal.Gen Idealize.ShloMosaic Idealize.ShloMosaic.TcCoe Idealize.SL.Sem

variable {F : FTy → Type} [FloatOps F]

/-- Block `v` of 128 columns lies in the 8192 columns (counted modulo the 64 blocks). -/
theorem slices_block (v : ℕ) : S512x8192.Slices ![0, 128 * (v % 64)] S512x128 :=
  (by decide +kernel : ∀ v : Fin 64, S512x8192.Slices ![0, 128 * v.val] S512x128) ⟨v % 64, Nat.mod_lt _ (by decide)⟩

/-- Columns `128 v … 128 v + 127` of a block of rows. -/
def block (d : FVec F S512x8192 .f32) (v : ℕ) : FVec F S512x128 .f32 :=
  extractStridedSlice S512x128 ![0, 128 * (v % 64)] d (slices_block v)

/-- The state of the tournament: for each pair of blocks the smaller and the larger value of the pair in every lane,
and the numbers of the blocks they came from. -/
structure Pairs (F : FTy → Type) [FloatOps F] where
  lo : ℕ → FVec F S512x128 .f32
  hi : ℕ → FVec F S512x128 .f32
  vlo : ℕ → IVec S512x128 32
  vhi : ℕ → IVec S512x128 32

/-- The tournament's first state: pair `t` sorts blocks `2 t` and `2 t + 1` lane by lane. -/
def start (w : ℕ → FVec F S512x128 .f32) : Pairs F where
  lo t := select (cmpf .olt (w (2 * t + 1)) (w (2 * t))) (w (2 * t + 1)) (w (2 * t))
  hi t := select (cmpf .olt (w (2 * t + 1)) (w (2 * t))) (w (2 * t)) (w (2 * t + 1))
  vlo t := select (cmpf .olt (w (2 * t + 1)) (w (2 * t))) (broadcast S512x128 (BitVec.ofNat 32 (2 * t + 1)))
    (broadcast S512x128 (BitVec.ofNat 32 (2 * t)))
  vhi t := select (cmpf .olt (w (2 * t + 1)) (w (2 * t))) (broadcast S512x128 (BitVec.ofNat 32 (2 * t)))
    (broadcast S512x128 (BitVec.ofNat 32 (2 * t + 1)))

/-- The winner of the first `n + 1` pairs: the smallest value in every lane and the block it came from. -/
def best (P : Pairs F) (n : ℕ) : FVec F S512x128 .f32 × IVec S512x128 32 :=
  Nat.rec (P.lo 0, P.vlo 0)
    (fun t p => (select (cmpf .olt (P.lo (t + 1)) p.1) (P.lo (t + 1)) p.1,
      select (cmpf .olt (P.lo (t + 1)) p.1) (P.vlo (t + 1)) p.2)) n

/-- The state once the blocks named by `vm` are taken out, lane by lane: the larger value of such a block's pair moves up. -/
def take (P : Pairs F) (vm : IVec S512x128 32) : Pairs F where
  lo t := select (cmpi .eq (P.vlo t) vm) (P.hi t) (P.lo t)
  hi t := select (cmpi .eq (P.vlo t) vm) (broadcast S512x128 (Scalar.ofBits .f32 0x7F800000#32)) (P.hi t)
  vlo t := select (cmpi .eq (P.vlo t) vm) (P.vhi t) (P.vlo t)
  vhi t := P.vhi t

/-- The state once the winner of every lane is taken out. -/
def remove (P : Pairs F) : Pairs F := take P (best P 31).2

/-- The state after `j` removals. -/
def level (w : ℕ → FVec F S512x128 .f32) (j : ℕ) : Pairs F :=
  Nat.rec (start w) (fun _ P => remove P) j

/-- Level `j`'s distance in every lane. -/
def levelDist (w : ℕ → FVec F S512x128 .f32) (j : ℕ) : FVec F S512x128 .f32 :=
  sqrt (maximumf (best (level w j) 31).1 (broadcast S512x128 (Scalar.ofBits .f32 0x2B8CBCCC#32)))

/-- Level `j`'s column in every lane. -/
def levelCol (w : ℕ → FVec F S512x128 .f32) (j : ℕ) : IVec S512x128 32 :=
  addi (muli (best (level w j) 31).2 (broadcast S512x128 128#32)) (iota .tc S512x128 32 [1] iota_S512x128_d1_w32)

/-- Whether level `j`'s pair of value and column comes before the pair `p`. -/
def before (C : ℕ → IVec S512x128 32) (m : ℕ → FVec F S512x128 .f32) (j : ℕ)
    (p : FVec F S512x128 .f32 × IVec S512x128 32) : IVec S512x128 1 :=
  ori (cmpf .olt (m j) p.1) (andi (cmpf .oeq (m j) p.1) (cmpi .slt (C j) p.2))

/-- In every lane the first pair of value and column among levels `0 … n`. -/
def first (C : ℕ → IVec S512x128 32) (m : ℕ → FVec F S512x128 .f32) (n : ℕ) :
    FVec F S512x128 .f32 × IVec S512x128 32 :=
  Nat.rec (m 0, C 0)
    (fun j p => (select (before C m (j + 1) p) (m (j + 1)) p.1, select (before C m (j + 1) p) (C (j + 1)) p.2)) n

/-- The least column, in every row, among the lanes whose value is the row's least. -/
def leastIn (q : FVec F S512x128 .f32 × IVec S512x128 32) : IVec S512x1 32 :=
  shapeCast S512x1 (multiReductionI .minsi [1] S512
    (select (cmpf .oeq q.1
        (broadcastTo S512x128 (shapeCast S512x1
          (multiReduction .minimumf [1] S512 q.1 0x7F800000#32 reduces_S512x128_S512 (.inl rfl) rfl)
          shapeCasts_S512_S512x1) broadcasts_S512x1_S512x128))
      q.2 (broadcast S512x128 8192#32))
    2147483647#32 reduces_S512x128_S512 rfl) shapeCasts_S512_S512x1

/-- The column a round picks in every row. -/
def picked (C : ℕ → IVec S512x128 32) (m : ℕ → FVec F S512x128 .f32) : IVec S512x1 32 := leastIn (first C m 4)

/-- The values once the picked column is struck out. -/
def strike (C : ℕ → IVec S512x128 32) (m : ℕ → FVec F S512x128 .f32) : ℕ → FVec F S512x128 .f32 := fun j =>
  select (cmpi .eq (C j) (broadcastTo S512x128 (picked C m) broadcasts_S512x1_S512x128))
    (broadcast S512x128 (Scalar.ofBits .f32 0x7F800000#32)) (m j)

/-- The values after `k` rounds. -/
def round (C : ℕ → IVec S512x128 32) (m : ℕ → FVec F S512x128 .f32) (k : ℕ) : ℕ → FVec F S512x128 .f32 :=
  Nat.rec m (fun _ m => strike C m) k

/-- The column picked in round `k`, from the rows' squared distances. -/
def column (d : FVec F S512x8192 .f32) (k : ℕ) : IVec S512x1 32 :=
  picked (levelCol (block d)) (round (levelCol (block d)) (levelDist (block d)) k)

/-- Output column `i` is one column of the block's sixteen. -/
theorem inb_column (i : Fin 16) (a : Fin S512x16.rank) :
    (![0, i.val] : Fin 2 → ℕ) a + S512x1.size a ≤ S512x16.size a :=
  (by decide +kernel : ∀ (i : Fin 16) (a : Fin 2), (![0, i.val] : Fin 2 → ℕ) a + S512x1.size a ≤ S512x16.size a) i a

/-- The rows' squared distances the body computes from what it loads. -/
def loaded (arg1 : Memref sig .tc .vmem S512x64 .bf16) (harg1 : arg1.IsWhole) (arg2 : Memref sig .tc .vmem S8192x64 .bf16) (harg2 : arg2.IsWhole) (arg3 : Memref sig .tc .vmem S512x1 .f32) (harg3 : arg3.IsWhole) (arg4 : Memref sig .tc .vmem S1x8192 .f32) (harg4 : arg4.IsWhole)
    (x0 : Vec F S512x64 .bf16) (x1 : Vec F S8192x64 .bf16) (x2 : Vec F S512x1 .f32) (x3 : Vec F S1x8192 .f32) : FVec F S512x8192 .f32 :=
  k0_pay2 (View.readAt (Elt F) arg1.view (Rect.unit ![0, 0] S512x64.size inb_S512x64_S512x64_0_0).toLoadRect (harg1.unread x0))
    (View.readAt (Elt F) arg2.view (Rect.unit ![0, 0] S8192x64.size inb_S8192x64_S8192x64_0_0).toLoadRect (harg2.unread x1))
    (View.readAt (Elt F) arg3.view (Rect.unit ![0, 0] S512x1.size inb_S512x1_S512x1_0_0).toLoadRect (harg3.unread x2))
    (View.readAt (Elt F) arg4.view (Rect.unit ![0, 0] S1x8192.size inb_S1x8192_S1x8192_0_0).toLoadRect (harg4.unread x3))

/-- The sixteen pieces the body's run leaves are the columns picked in rounds 1 to 16. -/
theorem run_pieces (c : Dev nD) (i : grid0.Coords) (arg1 : Memref sig .tc .vmem S512x64 .bf16) (harg1 : arg1.IsWhole) (arg2 : Memref sig .tc .vmem S8192x64 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S512x16 .i32) (harg5 : arg5.IsWhole) (arg6 : Memref sig .tc .vmem S8x128 .f32) (harg6 : arg6.IsWhole)
    (x0 : Vec F S512x64 .bf16) (x1 : Vec F S8192x64 .bf16) (x2 : Vec F S512x1 .f32) (x3 : Vec F S1x8192 .f32) :
    (kernelRun0_A c i arg1 harg1 arg2 harg2 arg3 harg3 arg4 harg4 arg5 harg5 arg6 harg6 x0 x1 x2 x3).1
      = View.tilePieces (s := S512x16) (e := .i32) (Val := Elt F) (NT := 16) S512x1.size (fun i => ![0, i.val])
          inb_column (fun i => column (loaded arg1 harg1 arg2 harg2 arg3 harg3 arg4 harg4 x0 x1 x2 x3) (i.val + 1)) 16 (le_refl 16) := by
  sl_kernel_rfl

end Cert.KernelIdeal.Select

end
-- ==== Proof.Tournament.lean ====
/- What the tournament leaves in one lane of one row: each level takes the least remaining value of the lane's sixty-four
   column blocks, so the five levels hold every value of the lane that is not above five others. -/
module

public import proofs.«01_k».proof.Proof.Select
public import Idealize.ShloMosaic.Lib.ValueIdx
public import Idealize.ShloMosaic.Lib.WordCmp

@[expose] public section

noncomputable section

namespace Cert.KernelIdeal.Select

open Cert.KernelIdeal Cert.KernelIdeal.Gen Idealize.ShloMosaic Idealize.ShloMosaic.ValueIdx

/-- A choice by a strict comparison of reals, at an index. -/
theorem select_olt {α : Type} (a b : FVec Ideal S512x128 .f32) (x y : S512x128.Idx → α) (p : S512x128.Idx) :
    select (cmpf .olt a b) x y p = if (a p : EReal) < b p then x p else y p := by
  show Scalar.select (BitVec.ofBool (decide ((a p : EReal) < b p))) (x p) (y p) = _
  by_cases h : (a p : EReal) < b p <;> simp [h, Scalar.select]

/-- A choice by an equality of words, at an index. -/
theorem select_word_eq {α : Type} (a b : IVec S512x128 32) (x y : S512x128.Idx → α) (p : S512x128.Idx) :
    select (cmpi .eq a b) x y p = if a p = b p then x p else y p := by
  show Scalar.select (BitVec.ofBool (a p == b p)) (x p) (y p) = _
  by_cases h : a p = b p
  · simp [h, Scalar.select]
  · have hb : (a p == b p) = false := by simpa using h
    rw [hb, if_neg h]
    rfl

/-- The constant the larger values are replaced by is infinity. -/
theorem inf_eq : (Scalar.ofBits (F := Ideal) .f32 0x7F800000#32 : EReal) = ⊤ := by
  show Ideal.ofBits .f32 0x7F800000#32 = ⊤
  simp [Ideal.ofBits, Ideal.ieee]

/-- The winner of the first pairs is one of their smaller values, with its block, and none of them is below it. -/
theorem best_spec (P : Pairs Ideal) (p : S512x128.Idx) (n : ℕ) :
    ∃ t, t ≤ n ∧ (best P n).2 p = P.vlo t p ∧ (best P n).1 p = P.lo t p ∧
      ∀ u, u ≤ n → ((best P n).1 p : EReal) ≤ P.lo u p := by
  induction n with
  | zero => exact ⟨0, le_refl _, rfl, rfl, fun u hu => by obtain rfl := Nat.le_zero.mp hu; exact le_refl _⟩
  | succ n ih =>
    obtain ⟨t, ht, h2, h1, hle⟩ := ih
    have e1 : (best P (n + 1)).1 p
        = if (P.lo (n + 1) p : EReal) < (best P n).1 p then P.lo (n + 1) p else (best P n).1 p := select_olt _ _ _ _ p
    have e2 : (best P (n + 1)).2 p
        = if (P.lo (n + 1) p : EReal) < (best P n).1 p then P.vlo (n + 1) p else (best P n).2 p := select_olt _ _ _ _ p
    by_cases h : (P.lo (n + 1) p : EReal) < (best P n).1 p
    · rw [if_pos h] at e1 e2
      refine ⟨n + 1, le_refl _, e2, e1, fun u hu => ?_⟩
      rw [e1]
      rcases Nat.lt_or_eq_of_le hu with hu | rfl
      · exact le_trans (le_of_lt h) (hle u (Nat.le_of_lt_succ hu))
      · exact le_refl _
    · rw [if_neg h] at e1 e2
      refine ⟨t, Nat.le_succ_of_le ht, e2.trans h2, e1.trans h1, fun u hu => ?_⟩
      rw [e1]
      rcases Nat.lt_or_eq_of_le hu with hu | rfl
      · exact hle u (Nat.le_of_lt_succ hu)
      · exact not_lt.mp h

/-- Pair `t` of the state, in one lane, against the lane's remaining values `W`: the pair's two blocks `a` (the smaller
value's) and `b`, and the block number `c` kept for the larger. -/
def PairIs (P : Pairs Ideal) (p : S512x128.Idx) (W : ℕ → EReal) (t a b c : ℕ) : Prop :=
  (a = 2 * t ∧ b = 2 * t + 1 ∨ a = 2 * t + 1 ∧ b = 2 * t) ∧ (c = 2 * t ∨ c = 2 * t + 1) ∧
    P.vlo t p = BitVec.ofNat 32 a ∧ P.vhi t p = BitVec.ofNat 32 c ∧ P.lo t p = W a ∧ P.hi t p = W b ∧
    W a ≤ W b ∧ (W b = ⊤ ∨ c = b)

/-- The state, in one lane, holds the lane's remaining values `W`. -/
def Holds (P : Pairs Ideal) (p : S512x128.Idx) (W : ℕ → EReal) : Prop :=
  ∀ t, t < 32 → ∃ a b c, PairIs P p W t a b c

/-- Two block numbers below 64 with one word are equal. -/
theorem word_inj {a b : ℕ} (ha : a < 64) (hb : b < 64) (h : BitVec.ofNat 32 a = BitVec.ofNat 32 b) : a = b := by
  have := congrArg BitVec.toNat h
  simp only [BitVec.toNat_ofNat] at this
  omega

/-- The first state holds the lane's values. -/
theorem holds_start (w : ℕ → FVec Ideal S512x128 .f32) (p : S512x128.Idx) :
    Holds (start w) p fun v => w v p := by
  intro t _
  have e1 : (start w).lo t p = if (w (2 * t + 1) p : EReal) < w (2 * t) p then w (2 * t + 1) p else w (2 * t) p :=
    select_olt _ _ _ _ p
  have e2 : (start w).hi t p = if (w (2 * t + 1) p : EReal) < w (2 * t) p then w (2 * t) p else w (2 * t + 1) p :=
    select_olt _ _ _ _ p
  have e3 : (start w).vlo t p
      = if (w (2 * t + 1) p : EReal) < w (2 * t) p then BitVec.ofNat 32 (2 * t + 1) else BitVec.ofNat 32 (2 * t) :=
    select_olt _ _ _ _ p
  have e4 : (start w).vhi t p
      = if (w (2 * t + 1) p : EReal) < w (2 * t) p then BitVec.ofNat 32 (2 * t) else BitVec.ofNat 32 (2 * t + 1) :=
    select_olt _ _ _ _ p
  by_cases h : (w (2 * t + 1) p : EReal) < w (2 * t) p
  · rw [if_pos h] at e1 e2 e3 e4
    exact ⟨2 * t + 1, 2 * t, 2 * t, Or.inr ⟨rfl, rfl⟩, Or.inl rfl, e3, e4, e1, e2, le_of_lt h, Or.inr rfl⟩
  · rw [if_neg h] at e1 e2 e3 e4
    exact ⟨2 * t, 2 * t + 1, 2 * t + 1, Or.inl ⟨rfl, rfl⟩, Or.inr rfl, e3, e4, e1, e2, not_lt.mp h, Or.inr rfl⟩

/-- The smaller values after a removal. -/
theorem take_lo (P : Pairs Ideal) (vm : IVec S512x128 32) (p : S512x128.Idx) (t : ℕ) :
    (take P vm).lo t p = if P.vlo t p = vm p then P.hi t p else P.lo t p :=
  select_word_eq (P.vlo t) vm (P.hi t) (P.lo t) p

/-- The larger values after a removal. -/
theorem take_hi (P : Pairs Ideal) (vm : IVec S512x128 32) (p : S512x128.Idx) (t : ℕ) :
    (take P vm).hi t p = if P.vlo t p = vm p then (⊤ : EReal) else P.hi t p := by
  rw [← inf_eq]
  exact select_word_eq (P.vlo t) vm (broadcast S512x128 (Scalar.ofBits .f32 0x7F800000#32)) (P.hi t) p

/-- The smaller values' blocks after a removal. -/
theorem take_vlo (P : Pairs Ideal) (vm : IVec S512x128 32) (p : S512x128.Idx) (t : ℕ) :
    (take P vm).vlo t p = if P.vlo t p = vm p then P.vhi t p else P.vlo t p :=
  select_word_eq (P.vlo t) vm (P.vhi t) (P.vlo t) p

attribute [local irreducible] best

/-- The winner of all pairs is the least remaining value of the lane, at some block `v`, and taking it out leaves the
lane's values with that one raised to infinity. -/
theorem holds_remove (P : Pairs Ideal) (p : S512x128.Idx) (W : ℕ → EReal) (h : Holds P p W) :
    ∃ v, v < 64 ∧ (best P 31).2 p = BitVec.ofNat 32 v ∧ (best P 31).1 p = W v ∧ (∀ u, u < 64 → W v ≤ W u) ∧
      Holds (remove P) p (Function.update W v ⊤) := by
  obtain ⟨s, hs, h2, h1, hle⟩ := best_spec P p 31
  unfold remove
  generalize (best P 31).2 = vm at h2 ⊢
  generalize (best P 31).1 = mm at h1 hle ⊢
  obtain ⟨v, b', c', hp, hc, hv, hvh, hlo, hhi, hab, htop⟩ := h s (by omega)
  have hv64 : v < 64 := by omega
  refine ⟨v, hv64, h2.trans hv, h1.trans hlo, fun u hu => ?_, fun t ht => ?_⟩
  · obtain ⟨a, b, c, hpu, -, -, -, hlu, -, habu, -⟩ := h (u / 2) (by omega)
    have hl := hle (u / 2) (by omega)
    rw [h1, hlo, hlu] at hl
    have hu' : u = a ∨ u = b := by omega
    rcases hu' with rfl | rfl
    · exact hl
    · exact hl.trans habu
  · have e1 := take_lo P vm p t
    have e2 := take_hi P vm p t
    have e3 := take_vlo P vm p t
    have e4 : (take P vm).vhi t p = P.vhi t p := rfl
    obtain ⟨a, b, c, hpt, hct, hvt, hvht, hlt, hht, habt, htt⟩ := h t ht
    by_cases hw : P.vlo t p = vm p
    · rw [if_pos hw] at e1 e2 e3
      have hav : a = v := word_inj (by omega) hv64 (by rw [← hvt, hw, h2, hv])
      subst hav
      have hba : b ≠ a := by omega
      rcases htt with hb | hb
      · rcases (by omega : c = a ∨ c = b) with rfl | rfl
        · refine ⟨c, b, c, hpt, hct, e3.trans hvht, e4.trans hvht, ?_, ?_, ?_, Or.inl ?_⟩
          · rw [e1, hht, Function.update_self, hb]
          · rw [e2, Function.update_of_ne hba, hb]
          · rw [Function.update_self, Function.update_of_ne hba, hb]
          · rw [Function.update_of_ne hba, hb]
        · refine ⟨c, a, c, by omega, hct, e3.trans hvht, e4.trans hvht, ?_, ?_, ?_, Or.inl ?_⟩
          · rw [e1, hht, Function.update_of_ne hba]
          · rw [e2, Function.update_self]
          · rw [Function.update_self]; exact le_top
          · rw [Function.update_self]
      · subst hb
        refine ⟨c, a, c, by omega, hct, e3.trans hvht, e4.trans hvht, ?_, ?_, ?_, Or.inl ?_⟩
        · rw [e1, hht, Function.update_of_ne hba]
        · rw [e2, Function.update_self]
        · rw [Function.update_self]; exact le_top
        · rw [Function.update_self]
    · rw [if_neg hw] at e1 e2 e3
      have hts : t ≠ s := fun e => hw (by rw [e, h2])
      have hav : a ≠ v := by omega
      have hbv : b ≠ v := by omega
      refine ⟨a, b, c, hpt, hct, e3.trans hvt, e4.trans hvht, ?_, ?_, ?_, ?_⟩
      · rw [e1, hlt, Function.update_of_ne hav]
      · rw [e2, hht, Function.update_of_ne hbv]
      · rw [Function.update_of_ne hav, Function.update_of_ne hbv]; exact habt
      · rw [Function.update_of_ne hbv]; exact htt

/-- The five levels of a lane, as a sequence of blocks: block `v j` is taken at level `j`, where the remaining values
are the lane's with the blocks taken before raised to infinity. -/
def left (x : ℕ → EReal) (v : ℕ → ℕ) : ℕ → ℕ → EReal
  | 0 => x
  | j + 1 => Function.update (left x v j) (v j) ⊤

/-- There is such a sequence. -/
theorem exists_levels (w : ℕ → FVec Ideal S512x128 .f32) (p : S512x128.Idx) :
    ∃ v : ℕ → ℕ, ∀ j, v j < 64 ∧ (best (level w j) 31).2 p = BitVec.ofNat 32 (v j) ∧
      (best (level w j) 31).1 p = left (fun b => w b p) v j (v j) ∧
      ∀ u, u < 64 → left (fun b => w b p) v j (v j) ≤ left (fun b => w b p) v j u := by
  have H : ∀ j, ∃ W, Holds (level w j) p W := by
    intro j
    induction j with
    | zero => exact ⟨_, holds_start w p⟩
    | succ j ih =>
      obtain ⟨W, hW⟩ := ih
      obtain ⟨v, -, -, -, -, hv⟩ := holds_remove _ p W hW
      exact ⟨_, hv⟩
  let v : ℕ → ℕ := fun j => ((best (level w j) 31).2 p).toNat
  have key : ∀ j, Holds (level w j) p (left (fun b => w b p) v j) ∧ v j < 64 ∧
      (best (level w j) 31).2 p = BitVec.ofNat 32 (v j) ∧
      (best (level w j) 31).1 p = left (fun b => w b p) v j (v j) ∧
      ∀ u, u < 64 → left (fun b => w b p) v j (v j) ≤ left (fun b => w b p) v j u := by
    have step : ∀ j, Holds (level w j) p (left (fun b => w b p) v j) → v j < 64 ∧
      (best (level w j) 31).2 p = BitVec.ofNat 32 (v j) ∧
      (best (level w j) 31).1 p = left (fun b => w b p) v j (v j) ∧
      (∀ u, u < 64 → left (fun b => w b p) v j (v j) ≤ left (fun b => w b p) v j u) ∧
      Holds (level w (j + 1)) p (left (fun b => w b p) v (j + 1)) := by
      intro j hj
      obtain ⟨u, hu, h2, h1, hle, hh⟩ := holds_remove _ p _ hj
      have e : v j = u := by
        show ((best (level w j) 31).2 p).toNat = u
        rw [h2, BitVec.toNat_ofNat]; omega
      subst e
      exact ⟨hu, h2, h1, hle, hh⟩
    have hall : ∀ j, Holds (level w j) p (left (fun b => w b p) v j) := by
      intro j
      induction j with
      | zero => exact holds_start w p
      | succ j ih => exact (step j ih).2.2.2.2
    intro j
    obtain ⟨a, b, c, d, -⟩ := step j (hall j)
    exact ⟨hall j, a, b, c, d⟩
  exact ⟨v, fun j => (key j).2⟩

/-- A block not taken before keeps its value; a taken one is at infinity. -/
theorem left_apply (x : ℕ → EReal) (v : ℕ → ℕ) (j u : ℕ) :
    left x v j u = x u ∨ left x v j u = ⊤ := by
  induction j with
  | zero => exact Or.inl rfl
  | succ j ih =>
    by_cases h : u = v j
    · right; rw [left, h, Function.update_self]
    · rw [left, Function.update_of_ne h]; exact ih

/-- A block none of the first levels took keeps its value. -/
theorem left_of_not_taken (x : ℕ → EReal) (v : ℕ → ℕ) (j u : ℕ) (h : ∀ i, i < j → v i ≠ u) : left x v j u = x u := by
  induction j with
  | zero => rfl
  | succ j ih =>
    rw [left, Function.update_of_ne (h j (Nat.lt_succ_self j)).symm]
    exact ih fun i hi => h i (Nat.lt_succ_of_lt hi)

/-- A block one of the first levels took is at infinity. -/
theorem left_of_taken (x : ℕ → EReal) (v : ℕ → ℕ) (j i : ℕ) (h : i < j) : left x v j (v i) = ⊤ := by
  induction j with
  | zero => exact absurd h (Nat.not_lt_zero i)
  | succ j ih =>
    by_cases e : v i = v j
    · rw [left, e, Function.update_self]
    · rw [left, Function.update_of_ne e]
      exact ih ((Nat.lt_succ_iff_lt_or_eq.mp h).resolve_right fun e' => e (by rw [e']))

/-- A finite value of the lane is taken by one of `L` levels, or the `L` levels take `L` different blocks none of whose
values is above it. -/
theorem taken_or (x : ℕ → EReal) (v : ℕ → ℕ) (L e : ℕ) (he : e < 64) (hx : x e < ⊤)
    (hv : ∀ j, ∀ u, u < 64 → left x v j (v j) ≤ left x v j u) :
    (∃ j, j < L ∧ v j = e ∧ left x v j (v j) = x e) ∨
      ((∀ j, j < L → v j ≠ e ∧ x (v j) ≤ x e) ∧ ∀ i j, i < j → j < L → v i ≠ v j) := by
  by_cases h : ∃ j, j < L ∧ v j = e
  · left
    classical
    let j := Nat.find h
    obtain ⟨hj, hje⟩ : j < L ∧ v j = e := Nat.find_spec h
    refine ⟨j, hj, hje, ?_⟩
    rw [hje]
    exact left_of_not_taken x v j e fun i hi hie => Nat.find_min h hi ⟨hi.trans hj, hie⟩
  · right
    have hn : ∀ j, j < L → v j ≠ e := fun j hj hje => h ⟨j, hj, hje⟩
    have hlt : ∀ j, j < L → left x v j (v j) ≤ x e := by
      intro j hj
      have := hv j e he
      rwa [left_of_not_taken x v j e fun i hi => hn i (hi.trans hj)] at this
    refine ⟨fun j hj => ⟨hn j hj, ?_⟩, fun i j hij hj hne => ?_⟩
    · rcases left_apply x v j (v j) with h' | h'
      · rw [← h']; exact hlt j hj
      · have := hlt j hj
        rw [h'] at this
        exact absurd hx (not_lt.mpr this)
    · have := hlt j hj
      rw [← hne, left_of_taken x v j i hij] at this
      exact absurd hx (not_lt.mpr this)

end Cert.KernelIdeal.Select

end
-- ==== Proof.Rounds.lean ====
/- What one of the seventeen rounds picks in a row: among the entries of the five levels in all lanes, the first in the
   order of value, then column. -/
module

public import proofs.«01_k».proof.Proof.Tournament
public import Idealize.ShloMosaic.Lib.ValueLayoutCasts
public import Idealize.ShloMosaic.Lib.SortNet.Extract
public import Idealize.ShloMosaic.PureOps.Ideal.Laws
public import Idealize.ShloMosaic.PureOps.Reduce

@[expose] public section

noncomputable section

namespace Cert.KernelIdeal.Select

open Cert.KernelIdeal Cert.KernelIdeal.Gen Idealize.ShloMosaic Idealize.ShloMosaic.ValueIdx

/-- A choice by "comes before", at an index. -/
theorem select_before {α : Type} (C : ℕ → IVec S512x128 32) (m : ℕ → FVec Ideal S512x128 .f32) (j : ℕ)
    (q : FVec Ideal S512x128 .f32 × IVec S512x128 32) (x y : S512x128.Idx → α) (p : S512x128.Idx) :
    select (before C m j q) x y p
      = if (m j p : EReal) < q.1 p ∨ ((m j p : EReal) = q.1 p ∧ (C j p).toInt < (q.2 p).toInt) then x p else y p := by
  show Scalar.select (IntOp.ori (BitVec.ofBool (decide ((m j p : EReal) < q.1 p)))
    (IntOp.andi (BitVec.ofBool (decide ((m j p : EReal) = q.1 p))) (BitVec.ofBool (decide ((C j p).toInt < (q.2 p).toInt)))))
    (x p) (y p) = _
  by_cases h1 : (m j p : EReal) < q.1 p <;> by_cases h2 : (m j p : EReal) = q.1 p <;>
    by_cases h3 : (C j p).toInt < (q.2 p).toInt <;> simp [h1, h2, h3, Scalar.select, IntOp.ori, IntOp.andi]

/-- The first pair of a lane is one of the levels', and none of them comes before it. -/
theorem first_spec (C : ℕ → IVec S512x128 32) (m : ℕ → FVec Ideal S512x128 .f32) (p : S512x128.Idx) (n : ℕ) :
    ∃ j, j ≤ n ∧ (first C m n).1 p = m j p ∧ (first C m n).2 p = C j p ∧
      ∀ u, u ≤ n → ((first C m n).1 p : EReal) < m u p ∨
        (((first C m n).1 p : EReal) = m u p ∧ ((first C m n).2 p).toInt ≤ (C u p).toInt) := by
  induction n with
  | zero => exact ⟨0, le_refl _, rfl, rfl, fun u hu => by obtain rfl := Nat.le_zero.mp hu; exact Or.inr ⟨rfl, le_refl _⟩⟩
  | succ n ih =>
    obtain ⟨j, hj, h1, h2, hle⟩ := ih
    have e1 : (first C m (n + 1)).1 p = _ := select_before C m (n + 1) (first C m n) _ _ p
    have e2 : (first C m (n + 1)).2 p = _ := select_before C m (n + 1) (first C m n) _ _ p
    by_cases h : (m (n + 1) p : EReal) < (first C m n).1 p ∨
        ((m (n + 1) p : EReal) = (first C m n).1 p ∧ (C (n + 1) p).toInt < ((first C m n).2 p).toInt)
    · rw [if_pos h] at e1 e2
      refine ⟨n + 1, le_refl _, e1, e2, fun u hu => ?_⟩
      rw [e1, e2]
      rcases Nat.lt_or_eq_of_le hu with hu | rfl
      · rcases h with h | ⟨h, hc⟩ <;> rcases hle u (Nat.le_of_lt_succ hu) with h' | ⟨h', hc'⟩
        · exact Or.inl (lt_trans h h')
        · exact Or.inl (lt_of_lt_of_le h (le_of_eq h'))
        · exact Or.inl (lt_of_le_of_lt (le_of_eq h) h')
        · exact Or.inr ⟨h.trans h', by omega⟩
      · exact Or.inr ⟨rfl, le_refl _⟩
    · rw [if_neg h] at e1 e2
      refine ⟨j, Nat.le_succ_of_le hj, e1.trans h1, e2.trans h2, fun u hu => ?_⟩
      rw [e1, e2]
      rcases Nat.lt_or_eq_of_le hu with hu | rfl
      · exact hle u (Nat.le_of_lt_succ hu)
      · rw [not_or, not_and, not_lt, not_lt] at h
        rcases lt_or_eq_of_le h.1 with h' | h'
        · exact Or.inl h'
        · exact Or.inr ⟨h', h.2 h'.symm⟩

attribute [local irreducible] first

/-- A fold of the signed minimum over a set is at most every word met, and is the start or one of them. -/
theorem fold_minsi_spec {ι : Type} [DecidableEq ι] (g : ι → BitVec 32) (s : Finset ι) (z : BitVec 32) :
    (∀ i ∈ s, (s.fold IntOp.minsi z g).toInt ≤ (g i).toInt) ∧
      (s.fold IntOp.minsi z g = z ∨ ∃ i ∈ s, s.fold IntOp.minsi z g = g i) := by
  induction s using Finset.induction_on with
  | empty => exact ⟨fun i hi => absurd hi (Finset.notMem_empty i), Or.inl Finset.fold_empty⟩
  | insert a s ha ih =>
    obtain ⟨hle, hmem⟩ := ih
    rw [Finset.fold_insert ha]
    refine ⟨fun i hi => ?_, ?_⟩
    · rw [SortNet.toInt_minsi]
      rcases Finset.mem_insert.mp hi with rfl | hi
      · exact min_le_left _ _
      · exact le_trans (min_le_right _ _) (hle i hi)
    · by_cases hc : (g a).slt (s.fold IntOp.minsi z g) = true
      · exact Or.inr ⟨a, Finset.mem_insert_self _ _, if_pos hc⟩
      · have e : IntOp.minsi (g a) (s.fold IntOp.minsi z g) = s.fold IntOp.minsi z g := if_neg hc
        rw [e]
        rcases hmem with h | ⟨i, hi, h⟩
        · exact Or.inl h
        · exact Or.inr ⟨i, Finset.mem_insert_of_mem hi, h⟩

/-- A fold of the minimum of extended reals from infinity, over a set that is not empty, is one of the values met and at
most every other. -/
theorem fold_min_spec {ι : Type} [DecidableEq ι] (g : ι → EReal) (s : Finset ι) (hs : s.Nonempty) :
    (∀ i ∈ s, s.fold min ⊤ g ≤ g i) ∧ ∃ i ∈ s, s.fold min ⊤ g = g i := by
  have e : s.fold min ⊤ g = s.inf g := rfl
  rw [e]
  refine ⟨fun i hi => Finset.inf_le hi, ?_⟩
  obtain ⟨i, hi, h⟩ := Finset.exists_mem_eq_inf s hs g
  exact ⟨i, hi, h⟩

/-- The indices of row `r` in a reduction over the lanes. -/
theorem mem_row (r : Fin 512) (i : S512x128.Idx) :
    (i ∈ Finset.univ.filter fun i : S512x128.Idx => (reduces_S512x128_S512).drop i = ix1 r) ↔ i 0 = r := by
  rw [Finset.mem_filter]
  simp [funext_iff, Fin.ext_iff, Fin.forall_fin_one, (reduces_S512x128_S512).drop_apply_val_of_eq i 0 0]
  exact Fin.ext_iff.symm

/-- One column broadcast along the lanes reads, in every lane, the row's value. -/
theorem broadcast_column {α : Type} (v : S512x1.Idx → α) (p : S512x128.Idx) :
    broadcastTo S512x128 v broadcasts_S512x1_S512x128 p = v (ix2 (p 0) 0) :=
  broadcastTo_apply v _ p _ fun a => by
    match a with
    | ⟨0, _⟩ => rfl
    | ⟨1, _⟩ => rfl

/-- In a row whose columns are all below 8192, the picked column is that of a lane, and no lane's pair of value and column
comes before that lane's. -/
theorem leastIn_spec (q : FVec Ideal S512x128 .f32 × IVec S512x128 32) (r : Fin 512)
    (hq : ∀ l : Fin 128, (q.2 (ix2 r l)).toInt < 8192) :
    ∃ l : Fin 128, leastIn q (ix2 r 0) = q.2 (ix2 r l) ∧
      ∀ k : Fin 128, (q.1 (ix2 r l) : EReal) < q.1 (ix2 r k) ∨
        ((q.1 (ix2 r l) : EReal) = q.1 (ix2 r k) ∧ (q.2 (ix2 r l)).toInt ≤ (q.2 (ix2 r k)).toInt) := by
  classical
  let R : Finset S512x128.Idx := Finset.univ.filter fun i : S512x128.Idx => (reduces_S512x128_S512).drop i = ix1 r
  have hR : ∀ l : Fin 128, ix2 r l ∈ R := fun l => (mem_row r _).mpr rfl
  have hRi : ∀ i ∈ R, ∃ k : Fin 128, i = ix2 r k := fun i hi => by
    have h := (mem_row r i).mp hi
    have h' := eq_ix2 i
    rw [h] at h'
    exact ⟨_, h'⟩
  let mrow : FVec Ideal S512 .f32 :=
    multiReduction .minimumf [1] S512 q.1 0x7F800000#32 reduces_S512x128_S512 (.inl rfl) rfl
  have hm : (mrow (ix1 r) : EReal) = R.fold min ⊤ q.1 := by
    show multiReduction .minimumf [1] S512 q.1 0x7F800000#32 reduces_S512x128_S512 (.inl rfl) rfl (ix1 r) = _
    refine (multiReduction_minimumf_eq_fold _ _ _ _ _ _).trans ?_
    exact congrArg (fun z => R.fold min z q.1) inf_eq
  obtain ⟨hle, i0, hi0, hi0e⟩ := fold_min_spec q.1 R ⟨_, hR 0⟩
  rw [← hm] at hle hi0e
  let w : IVec S512x128 32 := select (cmpf .oeq q.1
        (broadcastTo S512x128 (shapeCast S512x1 mrow shapeCasts_S512_S512x1) broadcasts_S512x1_S512x128))
      q.2 (broadcast S512x128 8192#32)
  have hw : ∀ k : Fin 128, w (ix2 r k) = if (q.1 (ix2 r k) : EReal) = mrow (ix1 r) then q.2 (ix2 r k) else 8192#32 := by
    intro k
    have e : broadcastTo S512x128 (shapeCast S512x1 mrow shapeCasts_S512_S512x1) broadcasts_S512x1_S512x128 (ix2 r k)
        = mrow (ix1 r) := by
      rw [broadcast_column]
      exact shapeCast_a_a1_apply mrow _ r 0
    show Scalar.select (BitVec.ofBool (decide ((q.1 (ix2 r k) : EReal) = broadcastTo S512x128 (shapeCast S512x1 mrow shapeCasts_S512_S512x1) broadcasts_S512x1_S512x128 (ix2 r k)))) (q.2 (ix2 r k)) 8192#32 = _
    rw [e]
    by_cases h : (q.1 (ix2 r k) : EReal) = mrow (ix1 r) <;> simp [h, Scalar.select]
  have hl : leastIn q (ix2 r 0) = R.fold IntOp.minsi 2147483647#32 w := by
    refine (shapeCast_a_a1_apply _ _ r 0).trans ?_
    exact multiReductionI_eq_fold .minsi w _ _ _ _
  obtain ⟨hle2, hmem⟩ := fold_minsi_spec w R 2147483647#32
  rw [← hl] at hle2 hmem
  obtain ⟨k0, rfl⟩ := hRi i0 hi0
  have hlt : (leastIn q (ix2 r 0)).toInt < 8192 := by
    have h := hle2 _ (hR k0)
    rw [hw, if_pos hi0e.symm] at h
    exact lt_of_le_of_lt h (hq _)
  have hmem' : ∃ l : Fin 128, leastIn q (ix2 r 0) = q.2 (ix2 r l) ∧ (q.1 (ix2 r l) : EReal) = mrow (ix1 r) := by
    rcases hmem with h | ⟨i, hi, h⟩
    · rw [h] at hlt
      exact absurd hlt (by decide)
    · obtain ⟨k, rfl⟩ := hRi i hi
      rw [hw] at h
      by_cases h' : (q.1 (ix2 r k) : EReal) = mrow (ix1 r)
      · rw [if_pos h'] at h
        exact ⟨_, h, h'⟩
      · rw [if_neg h'] at h
        rw [h] at hlt
        exact absurd hlt (by decide)
  obtain ⟨l, hl1, hl2⟩ := hmem'
  refine ⟨l, hl1, fun k => ?_⟩
  have hk := hle _ (hR k)
  rw [hl2]
  rcases lt_or_eq_of_le hk with h | h
  · exact Or.inl h
  · refine Or.inr ⟨h, ?_⟩
    have h2 := hle2 _ (hR k)
    rw [hw, if_pos h.symm, hl1] at h2
    exact h2

/-- A round picks, in a row whose columns are all below 8192, the column of an entry no other entry comes before. -/
theorem picked_spec (C : ℕ → IVec S512x128 32) (m : ℕ → FVec Ideal S512x128 .f32) (r : Fin 512)
    (hC : ∀ j, j ≤ 4 → ∀ l : Fin 128, (C j (ix2 r l)).toInt < 8192) :
    ∃ j, j ≤ 4 ∧ ∃ l : Fin 128, picked C m (ix2 r 0) = C j (ix2 r l) ∧
      ∀ u, u ≤ 4 → ∀ k : Fin 128, (m j (ix2 r l) : EReal) < m u (ix2 r k) ∨
        ((m j (ix2 r l) : EReal) = m u (ix2 r k) ∧ (C j (ix2 r l)).toInt ≤ (C u (ix2 r k)).toInt) := by
  have hf := fun k : Fin 128 => first_spec C m (ix2 r k) 4
  unfold picked
  generalize first C m 4 = q at hf ⊢
  obtain ⟨l, h, hmin⟩ := leastIn_spec q r fun l => by
    obtain ⟨j, hj, -, e, -⟩ := hf l
    rw [e]; exact hC j hj l
  obtain ⟨j, hj, e1, e2, -⟩ := hf l
  refine ⟨j, hj, l, h.trans e2, fun u hu k => ?_⟩
  obtain ⟨-, -, -, -, hk⟩ := hf k
  rw [← e1, ← e2]
  rcases hmin k with h1 | ⟨h1, h1'⟩ <;> rcases hk u hu with h2 | ⟨h2, h2'⟩
  · exact Or.inl (lt_trans h1 h2)
  · exact Or.inl (lt_of_lt_of_le h1 (le_of_eq h2))
  · exact Or.inl (lt_of_le_of_lt (le_of_eq h1) h2)
  · exact Or.inr ⟨h1.trans h2, le_trans h1' h2'⟩

/-- Striking out: the entries of the picked column go to infinity. -/
theorem strike_apply (C : ℕ → IVec S512x128 32) (m : ℕ → FVec Ideal S512x128 .f32) (j : ℕ) (r : Fin 512) (l : Fin 128) :
    strike C m j (ix2 r l) = if C j (ix2 r l) = picked C m (ix2 r 0) then (⊤ : EReal) else m j (ix2 r l) := by
  unfold strike
  rw [select_word_eq, broadcast_column, ← inf_eq]
  rfl

end Cert.KernelIdeal.Select

end

end
-- ==== Proof.Row.lean ====
/- One row of a block: if every lane holds at most five of the row's near columns, rounds 0 to 16 pick the row's
   columns in the order of distance, then column. -/
module

public import proofs.«01_k».proof.Proof.Rounds

@[expose] public section

noncomputable section

namespace Cert.KernelIdeal.Select

open Cert.KernelIdeal Cert.KernelIdeal.Gen Idealize.ShloMosaic Idealize.ShloMosaic.ValueIdx

/-- Two columns below 8192 with one word are equal. -/
theorem column_inj {a b : ℕ} (ha : a < 8192) (hb : b < 8192) (h : BitVec.ofNat 32 a = BitVec.ofNat 32 b) : a = b := by
  have := congrArg BitVec.toNat h
  simp only [BitVec.toNat_ofNat] at this
  omega

/-- A column's word read as an integer is the column. -/
theorem column_toInt {a : ℕ} (ha : a < 8192) : (BitVec.ofNat 32 a).toInt = a := by
  rw [BitVec.toInt_eq_toNat_cond, BitVec.toNat_ofNat]
  omega

/-- `σ` lists the columns in the order of `dist`, then column. -/
structure Lists (dist : ℕ → EReal) (σ : ℕ → ℕ) : Prop where
  lt : ∀ p, p < 8192 → σ p < 8192
  onto : ∀ c, c < 8192 → ∃ p, p < 8192 ∧ σ p = c
  ordered : ∀ p q, p < q → q < 8192 → dist (σ p) < dist (σ q) ∨ (dist (σ p) = dist (σ q) ∧ σ p < σ q)

/-- The list names no column twice. -/
theorem Lists.inj {dist : ℕ → EReal} {σ : ℕ → ℕ} (h : Lists dist σ) {p q : ℕ} (hp : p < 8192) (hq : q < 8192)
    (e : σ p = σ q) : p = q := by
  rcases lt_trichotomy p q with hlt | hlt | hlt
  · rcases h.ordered p q hlt hq with h' | h'
    · rw [e] at h'; exact absurd h' (lt_irrefl _)
    · omega
  · exact hlt
  · rcases h.ordered q p hlt hp with h' | h'
    · rw [e] at h'; exact absurd h' (lt_irrefl _)
    · omega

/-- Later columns of the list are no nearer. -/
theorem Lists.mono {dist : ℕ → EReal} {σ : ℕ → ℕ} (h : Lists dist σ) {p q : ℕ} (hpq : p ≤ q) (hq : q < 8192) :
    dist (σ p) ≤ dist (σ q) := by
  rcases Nat.lt_or_eq_of_le hpq with hlt | rfl
  · rcases h.ordered p q hlt hq with h' | h'
    · exact h'.le
    · exact h'.1.le
  · exact le_refl _

/-- The rounds' entries stand for columns, and every near column has an entry. -/
structure Entries (dist : ℕ → EReal) (T : EReal) (C : ℕ → IVec S512x128 32) (m : ℕ → FVec Ideal S512x128 .f32)
    (r : Fin 512) : Prop where
  is : ∀ j, j ≤ 4 → ∀ l : Fin 128, ∃ c, c < 8192 ∧ C j (ix2 r l) = BitVec.ofNat 32 c ∧
    ((m j (ix2 r l) : EReal) = dist c ∨ (m j (ix2 r l) : EReal) = ⊤)
  near : ∀ c, c < 8192 → dist c ≤ T → ∃ j, j ≤ 4 ∧ ∃ l : Fin 128, C j (ix2 r l) = BitVec.ofNat 32 c ∧
    (m j (ix2 r l) : EReal) = dist c

/-- Round `k` picks the column at place `k` of the list, and leaves the first `k` columns' entries at infinity. -/
theorem round_spec {dist : ℕ → EReal} {σ : ℕ → ℕ} (hσ : Lists dist σ) (hT : dist (σ 16) < ⊤)
    (C : ℕ → IVec S512x128 32) (m : ℕ → FVec Ideal S512x128 .f32) (r : Fin 512)
    (hE : Entries dist (dist (σ 16)) C m r) (k : ℕ) (hk : k ≤ 16) :
    picked C (round C m k) (ix2 r 0) = BitVec.ofNat 32 (σ k) ∧
      ∀ j (l : Fin 128), ((∃ p, p < k ∧ C j (ix2 r l) = BitVec.ofNat 32 (σ p)) ∧ (round C m k j (ix2 r l) : EReal) = ⊤) ∨
        ((∀ p, p < k → C j (ix2 r l) ≠ BitVec.ofNat 32 (σ p)) ∧ round C m k j (ix2 r l) = m j (ix2 r l)) := by
  have pick : ∀ k, k ≤ 16 → (∀ j (l : Fin 128),
      ((∃ p, p < k ∧ C j (ix2 r l) = BitVec.ofNat 32 (σ p)) ∧ (round C m k j (ix2 r l) : EReal) = ⊤) ∨
        ((∀ p, p < k → C j (ix2 r l) ≠ BitVec.ofNat 32 (σ p)) ∧ round C m k j (ix2 r l) = m j (ix2 r l))) →
      picked C (round C m k) (ix2 r 0) = BitVec.ofNat 32 (σ k) := by
    intro k hk hinv
    generalize round C m k = mk at hinv ⊢
    obtain ⟨j, hj, l, hp, hmin⟩ := picked_spec C mk r fun j hj l => by
      obtain ⟨c, hc, e, -⟩ := hE.is j hj l
      rw [e, column_toInt hc]; omega
    obtain ⟨c, hc, hCc, hmc⟩ := hE.is j hj l
    obtain ⟨u, hu, l', hCu, hmu⟩ := hE.near (σ k) (hσ.lt k (by omega)) (hσ.mono hk (by omega))
    have hku : (mk u (ix2 r l') : EReal) = dist (σ k) := by
      rcases hinv u l' with ⟨⟨p, hp', e⟩, -⟩ | ⟨-, e⟩
      · rw [hCu] at e
        have := hσ.inj (by omega) (by omega) (column_inj (hσ.lt k (by omega)) (hσ.lt p (by omega)) e)
        omega
      · rw [e, hmu]
    have hm := hmin u hu l'
    rw [hku, hCu, hCc, column_toInt hc, column_toInt (hσ.lt k (by omega))] at hm
    have hle : (mk j (ix2 r l) : EReal) ≤ dist (σ k) := by
      rcases hm with h | h
      · exact h.le
      · exact h.1.le
    have hfin : (mk j (ix2 r l) : EReal) < ⊤ := lt_of_le_of_lt (hle.trans (hσ.mono hk (by omega))) hT
    rcases hinv j l with ⟨-, e⟩ | ⟨hnot, e⟩
    · rw [e] at hfin; exact absurd hfin (lt_irrefl _)
    · rw [e] at hfin hm
      have hd : (m j (ix2 r l) : EReal) = dist c := hmc.resolve_right fun h => by
        rw [h] at hfin; exact absurd hfin (lt_irrefl _)
      rw [hd] at hm
      obtain ⟨q, hq, rfl⟩ := hσ.onto c hc
      have hqk : k ≤ q := by
        by_contra hlt
        exact hnot q (not_le.mp hlt) hCc
      rcases Nat.lt_or_eq_of_le hqk with hlt | rfl
      · exfalso
        rcases hσ.ordered k q hlt hq with h | ⟨h, h'⟩ <;> rcases hm with g | ⟨g, g'⟩
        · exact absurd (h.trans g) (lt_irrefl _)
        · rw [g] at h; exact absurd h (lt_irrefl _)
        · rw [h] at g; exact absurd g (lt_irrefl _)
        · omega
      · rw [hp, hCc]
  have inv : ∀ k, k ≤ 16 → ∀ j (l : Fin 128),
      ((∃ p, p < k ∧ C j (ix2 r l) = BitVec.ofNat 32 (σ p)) ∧ (round C m k j (ix2 r l) : EReal) = ⊤) ∨
        ((∀ p, p < k → C j (ix2 r l) ≠ BitVec.ofNat 32 (σ p)) ∧ round C m k j (ix2 r l) = m j (ix2 r l)) := by
    intro k
    induction k with
    | zero => exact fun _ j l => Or.inr ⟨fun p hp => absurd hp (Nat.not_lt_zero p), rfl⟩
    | succ k ih =>
      intro hk j l
      have hinv := ih (by omega)
      have hpk := pick k (by omega) hinv
      have hs : round C m (k + 1) j (ix2 r l)
          = if C j (ix2 r l) = picked C (round C m k) (ix2 r 0) then (⊤ : EReal) else round C m k j (ix2 r l) :=
        strike_apply C (round C m k) j r l
      rw [hpk] at hs
      by_cases h : C j (ix2 r l) = BitVec.ofNat 32 (σ k)
      · rw [if_pos h] at hs
        exact Or.inl ⟨⟨k, Nat.lt_succ_self k, h⟩, hs⟩
      · rw [if_neg h] at hs
        rcases hinv j l with ⟨⟨p, hp, e⟩, e'⟩ | ⟨hnot, e'⟩
        · exact Or.inl ⟨⟨p, Nat.lt_succ_of_lt hp, e⟩, hs.trans e'⟩
        · refine Or.inr ⟨fun p hp => ?_, hs.trans e'⟩
          rcases Nat.lt_succ_iff_lt_or_eq.mp hp with hp | rfl
          · exact hnot p hp
          · exact h
  exact ⟨pick k hk (inv k hk), inv k hk⟩

/-- The distance of a squared distance: the root of its larger with the guard. -/
def root (y : EReal) : EReal := Ideal.sqrt (max y (Ideal.ofBits .f32 0x2B8CBCCC#32))

/-- The square root of extended reals is monotone. -/
theorem sqrt_mono : Monotone Ideal.sqrt := by
  intro a b h
  induction a with
  | bot => exact bot_le
  | top => rw [top_le_iff.mp h]
  | coe a =>
    induction b with
    | bot => exact absurd (le_bot_iff.mp h) (EReal.coe_ne_bot a)
    | top => exact le_top
    | coe b =>
      have hab : a ≤ b := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab)

theorem root_mono : Monotone root := fun _ _ h => sqrt_mono (max_le_max_right _ h)

theorem root_top : root ⊤ = ⊤ := by
  unfold root
  rw [top_sup_eq, Ideal.sqrt_top]

/-- Column `c` of row `r`, counted modulo the 8192 columns. -/
def at' (d : FVec Ideal S512x8192 .f32) (r : Fin 512) (c : ℕ) : EReal :=
  d (ix2 r ⟨c % 8192, Nat.mod_lt _ (by decide)⟩)

/-- A lane of a block of columns is a column of the row. -/
theorem block_apply (d : FVec Ideal S512x8192 .f32) (r : Fin 512) (l : Fin 128) (v : ℕ) (hv : v < 64) :
    block d v (ix2 r l) = at' d r (v * 128 + l.val) := by
  unfold block at'
  refine congrArg d (funext fun a => Fin.ext ?_)
  match a with
  | ⟨0, _⟩ => show 0 + r.val = r.val; omega
  | ⟨1, _⟩ =>
    show 128 * (v % 64) + l.val = (v * 128 + l.val) % 8192
    have := l.isLt
    omega

attribute [local irreducible] best

/-- A level's distance is the root of the level's least squared distance. -/
theorem levelDist_apply (w : ℕ → FVec Ideal S512x128 .f32) (j : ℕ) (p : S512x128.Idx) :
    levelDist w j p = root ((best (level w j) 31).1 p) := by
  unfold levelDist
  generalize (best (level w j) 31).1 = b
  rfl

/-- A level's column is its block's lane. -/
theorem levelCol_apply (w : ℕ → FVec Ideal S512x128 .f32) (j : ℕ) (r : Fin 512) (l : Fin 128) (v : ℕ) (hv : v < 64)
    (h : (best (level w j) 31).2 (ix2 r l) = BitVec.ofNat 32 v) :
    levelCol w j (ix2 r l) = BitVec.ofNat 32 (v * 128 + l.val) := by
  unfold levelCol
  revert h
  generalize (best (level w j) 31).2 = b
  intro h
  have e : addi (muli b (broadcast S512x128 128#32)) (iota .tc S512x128 32 [1] iota_S512x128_d1_w32) (ix2 r l)
      = b (ix2 r l) * 128#32 + iota .tc S512x128 32 [1] iota_S512x128_d1_w32 (ix2 r l) := rfl
  have hi : iota .tc S512x128 32 [1] iota_S512x128_d1_w32 (ix2 r l) = BitVec.ofNat 32 l.val := by
    simp [iota, ix2]
  refine e.trans ?_
  rw [hi, h, BitVec.ofNat_add, BitVec.ofNat_mul]

/-- If every lane of the row holds at most five columns no farther than the list's seventeenth, round `k` picks the column
at place `k` of the list. -/
theorem column_eq (d : FVec Ideal S512x8192 .f32) (r : Fin 512) (σ : ℕ → ℕ)
    (hσ : Lists (fun c => root (at' d r c)) σ)
    (hfew : ∀ l, l < 128 → ((Finset.range 64).filter fun v =>
      root (at' d r (v * 128 + l)) ≤ root (at' d r (σ 16))).card ≤ 5) (k : ℕ) (hk : k ≤ 16) :
    column d k (ix2 r 0) = BitVec.ofNat 32 (σ k) := by
  have hT : root (at' d r (σ 16)) < ⊤ := by
    refine lt_top_iff_ne_top.mpr fun h => ?_
    have := hfew 0 (by decide)
    rw [h, Finset.filter_true_of_mem fun v _ => le_top, Finset.card_range] at this
    exact absurd this (by decide)
  refine (round_spec hσ hT (levelCol (block d)) (levelDist (block d)) r ⟨fun j _ l => ?_, fun c hc hcT => ?_⟩ k hk).1
  · obtain ⟨v, hv⟩ := exists_levels (block d) (ix2 r l)
    obtain ⟨h64, h2, h1, -⟩ := hv j
    refine ⟨v j * 128 + l.val, by have := l.isLt; omega, levelCol_apply _ _ _ _ _ h64 h2, ?_⟩
    rw [levelDist_apply, h1]
    rcases left_apply (fun b => block d b (ix2 r l)) v j (v j) with h | h
    · left; rw [h]; exact congrArg root (block_apply d r l (v j) h64)
    · right; rw [h]; exact root_top
  · have hl : c % 128 < 128 := Nat.mod_lt _ (by decide)
    have he : c / 128 < 64 := by omega
    have hce : c / 128 * 128 + c % 128 = c := by omega
    let l : Fin 128 := ⟨c % 128, hl⟩
    obtain ⟨v, hv⟩ := exists_levels (block d) (ix2 r l)
    have hx : ∀ u, u < 64 → block d u (ix2 r l) = at' d r (u * 128 + c % 128) := fun u hu => block_apply d r l u hu
    have hxe : block d (c / 128) (ix2 r l) = at' d r c := by rw [hx _ he, hce]
    have hfin : (block d (c / 128) (ix2 r l) : EReal) < ⊤ := by
      refine lt_top_iff_ne_top.mpr fun h => ?_
      rw [hxe] at h
      rw [h, root_top] at hcT
      exact absurd hT (not_lt.mpr hcT)
    rcases taken_or (fun b => block d b (ix2 r l)) v 5 (c / 128) he hfin fun j u hu => (hv j).2.2.2 u hu with
      ⟨j, hj, hje, hje'⟩ | ⟨hall, hdist⟩
    · refine ⟨j, by omega, l, ?_, ?_⟩
      · have := levelCol_apply (block d) j r l (v j) (hv j).1 (hv j).2.1
        rw [this, hje]
        exact congrArg _ hce
      · rw [levelDist_apply, (hv j).2.2.1, hje']
        exact congrArg root hxe
    · exfalso
      have hinj : Set.InjOn v (Finset.range 5 : Finset ℕ) := by
        intro i hi j hj hij
        rw [Finset.coe_range, Set.mem_Iio] at hi hj
        rcases lt_trichotomy i j with h | h | h
        · exact absurd hij (hdist i j h hj)
        · exact h
        · exact absurd hij.symm (hdist j i h hi)
      have hne : c / 128 ∉ (Finset.range 5).image v := fun h => by
        obtain ⟨j, hj, e⟩ := Finset.mem_image.mp h
        exact (hall j (Finset.mem_range.mp hj)).1 e
      have hsub : insert (c / 128) ((Finset.range 5).image v) ⊆ (Finset.range 64).filter fun u =>
          root (at' d r (u * 128 + c % 128)) ≤ root (at' d r (σ 16)) := by
        intro u hu
        rw [Finset.mem_filter, Finset.mem_range]
        rcases Finset.mem_insert.mp hu with rfl | hu
        · exact ⟨he, by rw [hce]; exact hcT⟩
        · obtain ⟨j, hj, rfl⟩ := Finset.mem_image.mp hu
          refine ⟨(hv j).1, ?_⟩
          have h := (hall j (Finset.mem_range.mp hj)).2
          rw [hxe, hx _ (hv j).1] at h
          exact (root_mono h).trans hcT
      have hcard := Finset.card_le_card hsub
      rw [Finset.card_insert_of_notMem hne, Finset.card_image_of_injOn hinj, Finset.card_range] at hcard
      have := hfew (c % 128) hl
      omega

end Cert.KernelIdeal.Select

end

end
-- ==== Proof.Distance.lean ====
/- The squared distances: what the kernel's block holds at a row and a column, over the extended reals. -/
module

public import proofs.«01_k».proof.Proof.Row
public import proofs.«01_k».proof.Proof.Gen.KernelIdeal.Value
public import Idealize.ShloMosaic.Lib.Pointwise
public import Idealize.ShloMosaic.Lib.VecWindow
public import Idealize.ShloMosaic.Lib.StableHlo.Run

@[expose] public section

noncomputable section

/-- The squared distance of rows `a` and `b`, from their squared norms and their product. -/
def Cert.squared (x : (⟨2, ![8192, 64]⟩ : Idealize.ShloMosaic.Shape).Idx → EReal) (a b : Fin 8192) : EReal :=
  ((∑ k : Fin 64, x (Idealize.ShloMosaic.ValueIdx.ix2 a k) * x (Idealize.ShloMosaic.ValueIdx.ix2 a k))
      + ∑ k : Fin 64, x (Idealize.ShloMosaic.ValueIdx.ix2 b k) * x (Idealize.ShloMosaic.ValueIdx.ix2 b k))
    - Idealize.ShloMosaic.Ideal.ofBits .f32 0x40000000#32
      * ∑ k : Fin 64, x (Idealize.ShloMosaic.ValueIdx.ix2 a k) * x (Idealize.ShloMosaic.ValueIdx.ix2 b k)

namespace Cert.KernelIdeal.Distance

open Cert.KernelIdeal Cert.KernelIdeal.Gen Idealize.ShloMosaic Idealize.ShloMosaic.TcCoe
open Cert.KernelIdeal.Select

set_option maxRecDepth 16384 in
/-- The body's squared distances at a row and a column, from the four blocks. -/
theorem pay_apply (x0 : Vec Ideal S512x64 .bf16) (x1 : Vec Ideal S8192x64 .bf16) (x2 : Vec Ideal S512x1 .f32)
    (x3 : Vec Ideal S1x8192 .f32) (r : Fin 512) (c : Fin 8192) :
    (k0_pay2 x0 x1 x2 x3 (ValueIdx.ix2 r c) : EReal) = ((x2 (ValueIdx.ix2 r 0) : EReal) + x3 (ValueIdx.ix2 0 c))
      - Ideal.ofBits .f32 0x40000000#32 * ∑ k : Fin 64, (x0 (ValueIdx.ix2 r k) : EReal) * x1 (ValueIdx.ix2 c k) := by
  pointwise [k0_pay2]
  simp only [ix2_eq_valueIdx]

/-- A load of the whole block reads the block. -/
theorem loaded_eq (arg1 : Memref sig .tc .vmem S512x64 .bf16) (harg1 : arg1.IsWhole) (arg2 : Memref sig .tc .vmem S8192x64 .bf16) (harg2 : arg2.IsWhole) (arg3 : Memref sig .tc .vmem S512x1 .f32) (harg3 : arg3.IsWhole) (arg4 : Memref sig .tc .vmem S1x8192 .f32) (harg4 : arg4.IsWhole)
    (x0 : Vec Ideal S512x64 .bf16) (x1 : Vec Ideal S8192x64 .bf16) (x2 : Vec Ideal S512x1 .f32) (x3 : Vec Ideal S1x8192 .f32) :
    loaded arg1 harg1 arg2 harg2 arg3 harg3 arg4 harg4 x0 x1 x2 x3 = k0_pay2 x0 x1 x2 x3 := by
  unfold loaded
  have h1 := (View.readAt_full (Val := Elt Ideal) arg1.view (harg1.unread x0) inb_S512x64_S512x64_0_0).trans (harg1.read_unread x0)
  have h2 := (View.readAt_full (Val := Elt Ideal) arg2.view (harg2.unread x1) inb_S8192x64_S8192x64_0_0).trans (harg2.read_unread x1)
  have h3 := (View.readAt_full (Val := Elt Ideal) arg3.view (harg3.unread x2) inb_S512x1_S512x1_0_0).trans (harg3.read_unread x2)
  have h4 := (View.readAt_full (Val := Elt Ideal) arg4.view (harg4.unread x3) inb_S1x8192_S1x8192_0_0).trans (harg4.read_unread x3)
  exact congr (congr (congr (congrArg k0_pay2 h1) h2) h3) h4

variable (m : (ℓ : Loc nD τ sig) → Buf (Elt Ideal) ℓ)

/-- The argument's rows. -/
abbrev rows (c : Dev nD) : FVec Ideal S8192x64 .f32 := m ((c : Thread nD τ).loc main_arg0)

/-- The rows, narrowed: what the launch finds of them. -/
theorem V_rows (c : Dev nD) : V m c main_v2 = (truncf .bf16 (rows m c) bitsLt_bf16_f32 : FVec Ideal S8192x64 .bf16) := by
  simp only [V, hostOps0]
  after_results

theorem V_sums_col (c : Dev nD) : V m c main_v3 = (broadcastInDim S8192x1 ![0] bcast_S8192_S8192x1_0
    (Host.reduceAdd (mulf (rows m c) (rows m c))
      (constant S_ .f32 0x00000000#32) reducesTo_S8192x64_S8192_d1 h_S_) : FVec Ideal S8192x1 .f32) := by
  simp only [V, hostOps0]
  after_results

theorem V_sums_row (c : Dev nD) : V m c main_v4 = (broadcastInDim S1x8192 ![1] bcast_S8192_S1x8192_1
    (Host.reduceAdd (mulf (rows m c) (rows m c))
      (constant S_ .f32 0x00000000#32) reducesTo_S8192x64_S8192_d1 h_S_) : FVec Ideal S1x8192 .f32) := by
  simp only [V, hostOps0]
  after_results

/-- Which block each window reads or writes at a point. -/
theorem indices : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 :=
  (by decide +kernel : ∀ t : Fin grid0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0)

/-- There are sixteen points. -/
theorem point_lt (t : Fin cfg0.N) : t.val < 16 := by
  have := t.isLt
  have h : cfg0.N = 16 := N_0
  omega

/-- Row `r` of block `t`, among the 8192. -/
def rowOf (t : Fin cfg0.N) (r : Fin 512) : Fin 8192 := ⟨512 * t.val + r.val, by
  have := point_lt t
  have := r.isLt
  omega⟩

theorem iblk0_apply (c : Dev nD) (t : Fin cfg0.N) (r : Fin 512) (k : Fin 64) :
    (iblk m c 0 t : Vec Ideal S512x64 .bf16) (ValueIdx.ix2 r k) = rows m c (ValueIdx.ix2 (rowOf t r) k) := by
  obtain ⟨h0, h1, -⟩ := indices t
  have e : (iblk m c 0 t : Vec Ideal S512x64 .bf16) (ValueIdx.ix2 r k)
      = (V m c main_v2 : FVec Ideal S8192x64 .bf16) (ValueIdx.ix2 (rowOf t r) k) := by
    refine congrArg (V m c main_v2 : FVec Ideal S8192x64 .bf16) (funext fun a => Fin.ext ?_)
    match a with
    | ⟨0, _⟩ => show win0_0.index t 0 * 512 + 1 * r.val = 512 * t.val + r.val; rw [h0]; omega
    | ⟨1, _⟩ => show win0_0.index t 1 * 64 + 1 * k.val = k.val; rw [h1]; omega
  rw [e, V_rows]
  rfl

theorem iblk1_apply (c : Dev nD) (t : Fin cfg0.N) (r : Fin 8192) (k : Fin 64) :
    (iblk m c 1 t : Vec Ideal S8192x64 .bf16) (ValueIdx.ix2 r k) = rows m c (ValueIdx.ix2 r k) := by
  obtain ⟨-, -, h0, h1, -⟩ := indices t
  have e : (iblk m c 1 t : Vec Ideal S8192x64 .bf16) (ValueIdx.ix2 r k)
      = (V m c main_v2 : FVec Ideal S8192x64 .bf16) (ValueIdx.ix2 r k) := by
    refine congrArg (V m c main_v2 : FVec Ideal S8192x64 .bf16) (funext fun a => Fin.ext ?_)
    match a with
    | ⟨0, _⟩ => show win0_1.index t 0 * 8192 + 1 * r.val = r.val; rw [h0]; omega
    | ⟨1, _⟩ => show win0_1.index t 1 * 64 + 1 * k.val = k.val; rw [h1]; omega
  rw [e, V_rows]
  rfl

theorem iblk2_apply (c : Dev nD) (t : Fin cfg0.N) (r : Fin 512) :
    ((iblk m c 2 t : Vec Ideal S512x1 .f32) (ValueIdx.ix2 r 0) : EReal)
      = ∑ k : Fin 64, (rows m c (ValueIdx.ix2 (rowOf t r) k) : EReal) * rows m c (ValueIdx.ix2 (rowOf t r) k) := by
  obtain ⟨-, -, -, -, h0, h1, -⟩ := indices t
  have e : (iblk m c 2 t : Vec Ideal S512x1 .f32) (ValueIdx.ix2 r 0)
      = (V m c main_v3 : FVec Ideal S8192x1 .f32) (ValueIdx.ix2 (rowOf t r) 0) := by
    refine congrArg (V m c main_v3 : FVec Ideal S8192x1 .f32) (funext fun a => Fin.ext ?_)
    match a with
    | ⟨0, _⟩ => show win0_2.index t 0 * 512 + 1 * r.val = 512 * t.val + r.val; rw [h0]; omega
    | ⟨1, _⟩ => show win0_2.index t 1 * 1 + 1 * 0 = 0; rw [h1]
  rw [e, V_sums_col]
  generalize rows m c = x
  generalize rowOf t r = a
  pointwise
  simp only [ix2_eq_valueIdx]

theorem iblk3_apply (c : Dev nD) (t : Fin cfg0.N) (b : Fin 8192) :
    ((iblk m c 3 t : Vec Ideal S1x8192 .f32) (ValueIdx.ix2 0 b) : EReal)
      = ∑ k : Fin 64, (rows m c (ValueIdx.ix2 b k) : EReal) * rows m c (ValueIdx.ix2 b k) := by
  obtain ⟨-, -, -, -, -, -, h0, h1, -⟩ := indices t
  have e : (iblk m c 3 t : Vec Ideal S1x8192 .f32) (ValueIdx.ix2 0 b)
      = (V m c main_v4 : FVec Ideal S1x8192 .f32) (ValueIdx.ix2 0 b) := by
    refine congrArg (V m c main_v4 : FVec Ideal S1x8192 .f32) (funext fun a => Fin.ext ?_)
    match a with
    | ⟨0, _⟩ => show win0_3.index t 0 * 1 + 1 * 0 = 0; rw [h0]
    | ⟨1, _⟩ => show win0_3.index t 1 * 8192 + 1 * b.val = b.val; rw [h1]; omega
  rw [e, V_sums_row]
  generalize rows m c = x
  pointwise
  simp only [ix2_eq_valueIdx]

/-- The squared distances of block `t`. -/
def dists (c : Dev nD) (t : Fin cfg0.N) : FVec Ideal S512x8192 .f32 :=
  k0_pay2 (iblk m c 0 t) (iblk m c 1 t) (iblk m c 2 t) (iblk m c 3 t)

/-- Block `t` of the squared distances is the squared distances of its rows. -/
theorem dists_apply (c : Dev nD) (t : Fin cfg0.N) (r : Fin 512) (b : Fin 8192) :
    (dists m c t (ValueIdx.ix2 r b) : EReal) = Cert.squared (rows m c) (rowOf t r) b := by
  refine (pay_apply _ _ _ _ r b).trans ?_
  rw [iblk2_apply, iblk3_apply]
  simp only [iblk0_apply, iblk1_apply]
  rfl

/-- Entry `k` of row `r` of what point `t` writes back is the column picked in round `k + 1`. -/
theorem flushed_apply (c : Dev nD) (t : Fin cfg0.N) (r : Fin 512) (k : Fin 16) :
    ((dats m 0 c).flushed 4 t : Vec Ideal S512x16 .i32) (ValueIdx.ix2 r k) = column (dists m c t) (k.val + 1) (ValueIdx.ix2 r 0) := by
  rw [Cert.KernelIdeal.Value.flushed4_A]
  show out0_A_4 (F := Ideal) c (grid0.coords t) _ _ _ _ _ _ _ _ _ _ _ _ _ _ _ _ (ValueIdx.ix2 r k) = _
  unfold out0_A_4
  rw [run_pieces, loaded_eq]
  refine View.read_tilePieces _ _ _ _ _ _ 16 (le_refl 16) (ValueIdx.ix2 r k) k k.isLt (ValueIdx.ix2 r 0) (fun a => ?_) 1 (fun i hi => ?_)
  · match a with
    | ⟨0, _⟩ => show r.val = 0 + r.val; omega
    | ⟨1, _⟩ => show k.val = k.val + 0; omega
  · show k.val < i.val ∨ i.val + 1 ≤ k.val
    have : i.val ≠ k.val := fun h => hi (Fin.ext h)
    omega

/-- Entry `k` of row `r` of block `t` of the kernel's result is the column picked in round `k + 1`. -/
theorem result_apply (c : Dev nD) (t : Fin cfg0.N) (r : Fin 512) (k : Fin 16) :
    ((dats m 0 c).arrAt 4 cfg0.N : Vec Ideal S8192x16 .i32) (ValueIdx.ix2 (rowOf t r) k)
      = column (dists m c t) (k.val + 1) (ValueIdx.ix2 r 0) := by
  refine Eq.trans ?_ (flushed_apply m c t r k)
  rw [← Cert.KernelIdeal.Value.blocks4 m c t (flush0_4 t)]
  obtain ⟨-, -, -, -, -, -, -, -, h0, h1⟩ := indices t
  refine congrArg ((dats m 0 c).arrAt 4 cfg0.N : Vec Ideal S8192x16 .i32) (funext fun a => Fin.ext ?_)
  match a with
  | ⟨0, _⟩ => show 512 * t.val + r.val = win0_4.index t 0 * 512 + 1 * r.val; rw [h0]; omega
  | ⟨1, _⟩ => show k.val = win0_4.index t 1 * 16 + 1 * k.val; rw [h1]; omega

end Cert.KernelIdeal.Distance

end

end
-- ==== Proof.Order.lean ====
/- What the reference holds: entry `k` of a row is the column at place `k + 1` of the row's stable sort by distance. -/
module

public import proofs.«01_k».proof.Proof.Sorted
public import proofs.«01_k».proof.Proof.Distance
public import proofs.«01_k».proof.Proof.Gen.ReferenceIdeal.Run

@[expose] public section

noncomputable section

namespace Cert.Order

open Idealize.ShloMosaic

/-- The rows of the argument. -/
abbrev Rows := FVec Ideal (⟨2, ![8192, 64]⟩ : Shape) .f32

/-- The distance of two rows. -/
def dist (x : Rows) (a b : Fin 8192) : EReal := Cert.KernelIdeal.Select.root (Cert.squared x a b)

/-- The columns of row `a` in the order of distance, then column. -/
def place (x : Rows) (a : Fin 8192) : Fin 8192 → Fin 8192 := sortedFrom fun k k' => decide (dist x a k < dist x a k')

/-- A row's places list its columns in order. -/
theorem place_lists (x : Rows) (a : Fin 8192) :
    Cert.KernelIdeal.Select.Lists (fun c => dist x a ⟨c % 8192, Nat.mod_lt _ (by decide)⟩)
      (fun p => (place x a ⟨p % 8192, Nat.mod_lt _ (by decide)⟩).val) := by
  have e : ∀ c : Fin 8192, (⟨c.val % 8192, Nat.mod_lt _ (by decide)⟩ : Fin 8192) = c := fun c =>
    Fin.ext (Nat.mod_eq_of_lt c.isLt)
  refine ⟨fun p _ => Fin.isLt _, fun c hc => ?_, fun p q hpq hq => ?_⟩
  · obtain ⟨p, hp⟩ := sortedFrom_surjective (fun k k' => decide (dist x a k < dist x a k')) ⟨c, hc⟩
    refine ⟨p.val, p.isLt, ?_⟩
    show (place x a ⟨p.val % 8192, _⟩).val = c
    rw [e p]
    exact congrArg Fin.val hp
  · have h := Sorted.sortedFrom_precedes (dist x a) ⟨p % 8192, Nat.mod_lt _ (by decide)⟩ ⟨q % 8192, Nat.mod_lt _ (by decide)⟩
      (Fin.lt_def.mpr (by show p % 8192 < q % 8192; omega))
    show dist x a ⟨(place x a _).val % 8192, _⟩ < dist x a ⟨(place x a _).val % 8192, _⟩ ∨
      (dist x a ⟨(place x a _).val % 8192, _⟩ = dist x a ⟨(place x a _).val % 8192, _⟩ ∧ _)
    rw [e, e]
    exact h

/-- The comparison of the sorts: the smaller value comes first. -/
theorem smaller_first (a b : EReal) :
    (Ideal.cmp .olt
      (Scalar.select (Ideal.cmp .une a a) (Ideal.ofBits .f32 0x7FC00000#32)
        (Scalar.select (Ideal.cmp .oeq a (Ideal.ofBits .f32 0x00000000#32)) (Ideal.ofBits .f32 0x00000000#32) a))
      (Scalar.select (Ideal.cmp .une b b) (Ideal.ofBits .f32 0x7FC00000#32)
        (Scalar.select (Ideal.cmp .oeq b (Ideal.ofBits .f32 0x00000000#32)) (Ideal.ofBits .f32 0x00000000#32) b)) == 1#1)
      = decide (a < b) := by
  have zero : ∀ y z : EReal, Scalar.select (Ideal.cmp .oeq y z) z y = y := by
    intro y z
    by_cases h : y = z
    · simp [Scalar.select, Ideal.cmp, h]
    · simp [Scalar.select, Ideal.cmp, h]
  have nan : ∀ y z : EReal, Scalar.select (Ideal.cmp .une y y) z y = y := by
    intro y z
    simp [Scalar.select, Ideal.cmp]
  rw [zero, zero, nan, nan]
  by_cases h : a < b <;> simp [Ideal.cmp, h]

/-- Moving an index of a matrix along its row. -/
theorem along_row {n m : ℕ} (a : Fin n) (p q : Fin m) :
    Shape.Idx.along (s := ⟨2, ![n, m]⟩) (ValueIdx.ix2 a p) 1 q = ValueIdx.ix2 a q := by
  funext i
  match i with
  | ⟨0, _⟩ => rfl
  | ⟨1, _⟩ => rfl

/-- The second array of a row-wise sort of two. -/
theorem sort2_snd {n m : ℕ} {α β : Type} (cmp : α × β → α × β → BitVec 1) (x : (⟨2, ![n, m]⟩ : Shape).Idx → α)
    (y : (⟨2, ![n, m]⟩ : Shape).Idx → β) (a : Fin n) (p : Fin m) :
    (Host.sort2 ⟨2, ![n, m]⟩ 1 cmp x y).2 (ValueIdx.ix2 a p)
      = y (ValueIdx.ix2 a (sortedFrom (fun q q' : Fin m => cmp (x (ValueIdx.ix2 a q), y (ValueIdx.ix2 a q))
          (x (ValueIdx.ix2 a q'), y (ValueIdx.ix2 a q')) == 1#1) p)) := by
  show y (Shape.Idx.along (s := ⟨2, ![n, m]⟩) (ValueIdx.ix2 a p) 1
    (sortedFrom (fun q q' : Fin m => cmp (x (Shape.Idx.along (s := ⟨2, ![n, m]⟩) (ValueIdx.ix2 a p) 1 q), y (Shape.Idx.along (s := ⟨2, ![n, m]⟩) (ValueIdx.ix2 a p) 1 q))
      (x (Shape.Idx.along (s := ⟨2, ![n, m]⟩) (ValueIdx.ix2 a p) 1 q'), y (Shape.Idx.along (s := ⟨2, ![n, m]⟩) (ValueIdx.ix2 a p) 1 q')) == 1#1) p)) = _
  simp only [along_row]
  exact congrArg y (along_row a p _)

/-- A row-wise sort of one array. -/
theorem sort_row {n m : ℕ} {α : Type} (cmp : α → α → BitVec 1) (x : (⟨2, ![n, m]⟩ : Shape).Idx → α) (a : Fin n) (p : Fin m) :
    Host.sort ⟨2, ![n, m]⟩ 1 cmp x (ValueIdx.ix2 a p)
      = x (ValueIdx.ix2 a (sortedFrom (fun q q' : Fin m => cmp (x (ValueIdx.ix2 a q)) (x (ValueIdx.ix2 a q')) == 1#1) p)) := by
  show x (Shape.Idx.along (s := ⟨2, ![n, m]⟩) (ValueIdx.ix2 a p) 1
    (sortedFrom (fun q q' : Fin m => cmp (x (Shape.Idx.along (s := ⟨2, ![n, m]⟩) (ValueIdx.ix2 a p) 1 q))
      (x (Shape.Idx.along (s := ⟨2, ![n, m]⟩) (ValueIdx.ix2 a p) 1 q')) == 1#1) p)) = _
  simp only [along_row]
  exact congrArg x (along_row a p _)

open Cert.ReferenceIdeal Cert.ReferenceIdeal.Gen in
/-- The reference's comparison puts the smaller value first. -/
theorem reference_first (l r : EReal × BitVec 32) :
    (comparator_f32_i32_d1 (F := Ideal) l r == 1#1) = decide (l.1 < r.1) := smaller_first l.1 r.1

open Cert.ReferenceIdeal Cert.ReferenceIdeal.Gen in
/-- The reference's distances. -/
def distances (x : Rows) : FVec Ideal S8192x8192 .f32 :=
  Host.sqrt (maximumf (subf (addf (broadcastInDim S8192x8192 ![0, 1] bcast_S8192x1_S8192x8192_0_1 (broadcastInDim S8192x1 ![0] bcast_S8192_S8192x1_0 (Host.reduceAdd (mulf x x) (constant S_ .f32 0x00000000#32) reducesTo_S8192x64_S8192_d1 h_S_))) (broadcastInDim S8192x8192 ![0, 1] bcast_S1x8192_S8192x8192_0_1 (broadcastInDim S1x8192 ![1] bcast_S8192_S1x8192_1 (Host.reduceAdd (mulf x x) (constant S_ .f32 0x00000000#32) reducesTo_S8192x64_S8192_d1 h_S_)))) (mulf (broadcastInDim S8192x8192 ![] bcast_S_S8192x8192 (constant S_ .f32 0x40000000#32)) (Host.dotGeneral dot_S8192x64_S64x8192_S8192x8192_1_0_0_1_n_n none x (transpose S64x8192 [1, 0] x transposes_S8192x64_S64x8192_1_0)))) (broadcastInDim S8192x8192 ![] bcast_S_S8192x8192 (constant S_ .f32 0x2B8CBCCC#32)))

set_option maxRecDepth 16384 in
/-- The reference's distances at a row and a column. -/
theorem distances_apply (x : Rows) (a b : Fin 8192) : (distances x (ValueIdx.ix2 a b) : EReal) = dist x a b := by
  pointwise [distances]
  simp only [ix2_eq_valueIdx]
  rfl

open Cert.ReferenceIdeal Cert.ReferenceIdeal.Gen in
/-- The reference's result at a row and an entry. -/
theorem reference_apply (x : Rows) (a : Fin 8192) (k : Fin 16) :
    (extractStridedSlice S8192x16 ![0, 1] ((Host.sort2 S8192x8192 1 comparator_f32_i32_d1 (distances x) (iotaInDim S8192x8192 32 1)).2)
      slices_S8192x8192_S8192x16_0_1) (ValueIdx.ix2 a k)
      = BitVec.ofNat 32 (place x a ⟨k.val + 1, by have := k.isLt; omega⟩).val := by
  have hk : k.val + 1 < 8192 := by have := k.isLt; omega
  have e : (extractStridedSlice S8192x16 ![0, 1] ((Host.sort2 S8192x8192 1 comparator_f32_i32_d1 (distances x) (iotaInDim S8192x8192 32 1)).2)
      slices_S8192x8192_S8192x16_0_1) (ValueIdx.ix2 a k)
      = (Host.sort2 S8192x8192 1 comparator_f32_i32_d1 (distances x) (iotaInDim S8192x8192 32 1)).2 (ValueIdx.ix2 a ⟨k.val + 1, hk⟩) := by
    refine congrArg (Host.sort2 S8192x8192 1 comparator_f32_i32_d1 (distances x) (iotaInDim S8192x8192 32 1)).2 (funext fun i => Fin.ext ?_)
    match i with
    | ⟨0, _⟩ => show 0 + a.val = a.val; omega
    | ⟨1, _⟩ => show 1 + k.val = k.val + 1; omega
  rw [e]
  rw [sort2_snd]
  simp only [reference_first, distances_apply]
  rfl

end Cert.Order

end
-- ==== Proof.Few.lean ====
/- What the precondition says: every lane of every row holds at most five near columns. -/
module

public import proofs.«01_k».proof.Proof.Order
public import proofs.«01_k».proof.Proof.Gen.Pre_lanes_suffice

@[expose] public section

noncomputable section

namespace Cert.Few

open Idealize.ShloMosaic Cert.Order Cert.Pre_lanes_suffice Cert.Pre_lanes_suffice.Gen

/-- The precondition's comparison puts the smaller value first. -/
theorem sort_first (l r : EReal) : (comparator_f32_d1 (F := Ideal) l r == 1#1) = decide (l < r) := smaller_first l r

/-- A sum of one-bit words counts. -/
theorem fold_count {ι : Type} [DecidableEq ι] (P : ι → Prop) [DecidablePred P] (s : Finset ι) :
    s.fold IntOp.addi (0#32) (fun v => BitVec.setWidth 32 (BitVec.ofBool (decide (P v)))) = BitVec.ofNat 32 (s.filter P).card := by
  induction s using Finset.induction_on with
  | empty => rfl
  | insert v s hv ih =>
    rw [Finset.fold_insert hv, ih, Finset.filter_insert]
    by_cases h : P v
    · rw [if_pos h, Finset.card_insert_of_notMem fun hm => hv (Finset.mem_filter.mp hm).1]
      simp only [h, IntOp.addi, decide_true]
      rw [BitVec.ofNat_add, BitVec.add_comm]
      rfl
    · rw [if_neg h]
      simp only [h, IntOp.addi, decide_false]
      exact BitVec.zero_add _

/-- The near columns of lane `l` in row `a`. -/
def near (x : Rows) (a : Fin 8192) (l : Fin 128) : Finset (Fin 64) :=
  Finset.univ.filter fun v : Fin 64 => dist x a ⟨v.val * 128 + l.val, by have := v.isLt; have := l.isLt; omega⟩
    ≤ dist x a (place x a 16)

set_option maxRecDepth 16384 in
/-- The count and its comparison, of any distances, at a row and a lane. -/
theorem count_apply (D : FVec Ideal S8192x8192 .f32) (a : Fin 8192) (l : Fin 128) :
    fn_part1 (F := Ideal) (shapeCast S8192x64x128 (extui 32 (cmpf .ole D (broadcastInDim S8192x8192 ![0, 1] bcast_S8192x1_S8192x8192_0_1
      (extractStridedSlice S8192x1 ![0, 16] (fn_sort (F := Ideal) D) slices_S8192x8192_S8192x1_0_16))) natLt_1_32)
      shapeCasts_S8192x8192_S8192x64x128) (ValueIdx.ix2 a l)
      = IntOp.cmpi .sle ((Finset.univ : Finset (Fin 64)).fold IntOp.addi (0#32) fun v => BitVec.setWidth 32 (BitVec.ofBool (decide
          ((D (ValueIdx.ix2 a ⟨v.val * 128 + l.val, by have := v.isLt; have := l.isLt; omega⟩) : EReal)
            ≤ Host.sort S8192x8192 1 comparator_f32_d1 D (ValueIdx.ix2 a 16))))) 5#32 := by
  unfold fn_part1 fn_sort
  dsimp only
  have h0 : (ValueIdx.ix2 a l : (⟨2, ![8192, 128]⟩ : Shape).Idx) 0 = a := rfl
  have h1 : (ValueIdx.ix2 a l : (⟨2, ![8192, 128]⟩ : Shape).Idx) 1 = l := rfl
  pointwise
  simp only [h0, h1, ix2_eq_valueIdx]

/-- The precondition at a row and a lane compares the number of near columns with five. -/
theorem fn_apply (x : Rows) (a : Fin 8192) (l : Fin 128) :
    fn (F := Ideal) x (ValueIdx.ix2 a l) = IntOp.cmpi .sle (BitVec.ofNat 32 (near x a l).card) 5#32 := by
  refine (count_apply (distances x) a l).trans ?_
  rw [sort_row]
  simp only [sort_first, distances_apply]
  exact congrArg (fun w => IntOp.cmpi .sle w 5#32) (fold_count _ _)

/-- Under the precondition every lane of every row holds at most five near columns. -/
theorem near_card (x : Rows) (hx : fn (F := Ideal) x = fun _ => 1#1) (a : Fin 8192) (l : Fin 128) : (near x a l).card ≤ 5 := by
  have h := (fn_apply x a l).symm.trans (congrFun hx (ValueIdx.ix2 a l))
  have hc : (near x a l).card ≤ 64 := (Finset.card_le_univ _).trans (by simp)
  generalize (near x a l).card = n at h hc ⊢
  by_contra hn
  interval_cases n <;> first | omega | exact absurd h (by decide)

end Cert.Few

end
-- ==== Proof.Equal.lean ====
/- Under the precondition the kernel's result is the reference's. -/
module

public import proofs.«01_k».proof.Proof.Few

@[expose] public section

noncomputable section

namespace Cert.Equal

open Idealize.ShloMosaic Idealize.ShloMosaic.TcCoe Cert.Order Cert.Few Cert.KernelIdeal.Select Cert.KernelIdeal.Distance
open Cert.KernelIdeal Cert.KernelIdeal.Gen

variable (m : (ℓ : Loc nD τ sig) → Buf (Elt Ideal) ℓ)

/-- The distance of a row of a block and a column is the distance of the two rows. -/
theorem root_at (c : Dev nD) (t : Fin cfg0.N) (r : Fin 512) (b : ℕ) :
    root (at' (dists m c t) r b) = Order.dist (rows m c) (rowOf t r) ⟨b % 8192, Nat.mod_lt _ (by decide)⟩ := by
  unfold at' Order.dist
  rw [dists_apply]

/-- Under the precondition round `k` picks the column at place `k`. -/
theorem column_place (c : Dev nD) (hx : Pre_lanes_suffice.fn (F := Ideal) (rows m c) = fun _ => 1#1) (t : Fin cfg0.N) (r : Fin 512)
    (k : ℕ) (hk : k ≤ 16) :
    column (dists m c t) k (ValueIdx.ix2 r 0) = BitVec.ofNat 32 (place (rows m c) (rowOf t r) ⟨k, by omega⟩).val := by
  have hl := place_lists (rows m c) (rowOf t r)
  have e : ∀ p : Fin 8192, (⟨p.val % 8192, Nat.mod_lt _ (by decide)⟩ : Fin 8192) = p := fun p =>
    Fin.ext (Nat.mod_eq_of_lt p.isLt)
  have h := column_eq (dists m c t) r (fun p => (place (rows m c) (rowOf t r) ⟨p % 8192, Nat.mod_lt _ (by decide)⟩).val)
    (by simpa only [root_at] using hl) (fun l hl' => ?_) k hk
  · rw [h]
    exact congrArg (fun p => BitVec.ofNat 32 (place (rows m c) (rowOf t r) p).val) (e ⟨k, by omega⟩)
  · refine le_trans ?_ (near_card (rows m c) hx (rowOf t r) ⟨l, hl'⟩)
    simp only [root_at]
    have hc : (near (rows m c) (rowOf t r) ⟨l, hl'⟩).card = ((near (rows m c) (rowOf t r) ⟨l, hl'⟩).map Fin.valEmbedding).card :=
      (Finset.card_map _).symm
    rw [hc]
    refine Finset.card_le_card fun v hv => ?_
    obtain ⟨hv, hn⟩ := Finset.mem_filter.mp hv
    have hv' := Finset.mem_range.mp hv
    refine Finset.mem_map.mpr ⟨⟨v, hv'⟩, Finset.mem_filter.mpr ⟨Finset.mem_univ _, ?_⟩, rfl⟩
    rw [e] at hn
    have e1 : (⟨(v * 128 + l) % 8192, Nat.mod_lt _ (by decide)⟩ : Fin 8192) = ⟨v * 128 + l, by omega⟩ :=
      Fin.ext (Nat.mod_eq_of_lt (by omega))
    rw [e1] at hn
    exact hn

/-- Under the precondition the kernel's result is the reference's. -/
theorem result_eq (c : Dev nD) (hx : Pre_lanes_suffice.fn (F := Ideal) (rows m c) = fun _ => 1#1) :
    ((dats m 0 c).arrAt 4 cfg0.N : Vec Ideal S8192x16 .i32)
      = extractStridedSlice S8192x16 ![0, 1] ((Host.sort2 ReferenceIdeal.S8192x8192 1 ReferenceIdeal.comparator_f32_i32_d1
          (distances (rows m c)) (iotaInDim ReferenceIdeal.S8192x8192 32 1)).2) ReferenceIdeal.Gen.facts.slices_S8192x8192_S8192x16_0_1 := by
  funext i
  obtain ⟨a, k, rfl⟩ : ∃ (a : Fin 8192) (k : Fin 16), i = ValueIdx.ix2 a k := ⟨i 0, i 1, ValueIdx.eq_ix2 i⟩
  have hN : cfg0.N = 16 := N_0
  have ha := a.isLt
  obtain ⟨t, r, rfl⟩ : ∃ (t : Fin cfg0.N) (r : Fin 512), a = rowOf t r :=
    ⟨⟨a.val / 512, by omega⟩, ⟨a.val % 512, by omega⟩, Fin.ext (by show a.val = 512 * (a.val / 512) + a.val % 512; omega)⟩
  rw [result_apply, column_place m c hx t r (k.val + 1) (by have := k.isLt; omega)]
  exact (reference_apply (rows m c) (rowOf t r) k).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_lanes_suffice
public import proofs.«01_k».proof.Proof.Gen.KernelIdeal.Value
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run leaves its argument and ends with every semaphore at zero: it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩) (Cert.ReferenceIdeal.Value.run m g)

/-- Over the extended reals, under the precondition, the kernel's result is the reference's. -/
theorem equal : Cert.algebraic_KernelIdeal_ReferenceIdeal_pre_lanes_suffice := by
  intro m g m' g' hpre harg
  refine ⟨fun c => (Cert.KernelIdeal.Gen.dats m 0 c).arrAt 4 Cert.KernelIdeal.cfg0.N, Cert.KernelIdeal.Value.run_blocks m g, ?_⟩
  refine (θ_run _ _ _).mono (fun r h c => ⟨(h c).1.trans ?_, (h c).2⟩) (Cert.ReferenceIdeal.Value.run m' g')
  rw [harg c]
  exact (Cert.Equal.result_eq m c (hpre c)).symm

/-- Everything claimed. -/
theorem claim : Cert.Claim := ⟨Cert.Kernel.Gen.facts, Cert.KernelIdeal.Gen.facts, Cert.ReferenceIdeal.Gen.facts, Cert.Pre_lanes_suffice.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, equal⟩

end Cert.Proof

end
